-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_uniform_grid : Cert.Pre_uniform_grid.Facts),
    quiescent_Kernel (hKernel := hKernel)
    ∧ quiescent_KernelIdeal (hKernelIdeal := hKernelIdeal)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_uniform_grid (hKernelIdeal := hKernelIdeal) (hReferenceIdeal := hReferenceIdeal) (hPre_uniform_grid := hPre_uniform_grid)
-- ==== Pre_uniform_grid.lean ====
abbrev S4096 : Shape := ⟨1, ![4096]⟩
abbrev S10001x4096 : Shape := ⟨2, ![10001, 4096]⟩
abbrev S10001 : Shape := ⟨1, ![10001]⟩
abbrev S9999 : Shape := ⟨1, ![9999]⟩
abbrev S_ : Shape := ⟨0, ![]⟩

class Facts : Prop where
  bcast_S_S9999 : S_.BroadcastsInDim S9999 (![] : Fin 0 → Fin S9999.rank)
  bcast_S_S4096 : S_.BroadcastsInDim S4096 (![] : Fin 0 → Fin S4096.rank)
  slices_S10001_S9999_1 : S10001.Slices ![1] S9999

variable [Facts]

def fn {F : FTy → Type} [FloatOps F] (main_arg0 : FVec F S4096 .f32) (main_arg1 : FVec F S10001x4096 .f32) (main_arg2 : FVec F S10001 .f32) : IVec S4096 1 × IVec S9999 1 :=
  let main_v0 : IVec S9999 32 := iotaInDim S9999 32 0
  let main_c : IVec S_ 32 := constantI S_ 32 1#32
  let main_v1 : IVec S9999 32 := broadcastInDim S9999 ![] bcast_S_S9999 main_c
  let main_v2 : IVec S9999 32 := addi main_v1 main_v0
  let main_v3 : FVec F S9999 .f32 := sitofp .f32 main_v2
  let main_v4 : FVec F S4096 .f32 := Host.absf main_arg0
  let main_cst : FVec F S_ .f32 := constant S_ .f32 0x7F800000#32
  let main_v5 : FVec F S4096 .f32 := broadcastInDim S4096 ![] bcast_S_S4096 main_cst
  let main_v6 : IVec S4096 1 := cmpf .olt main_v4 main_v5
  let main_v7 : FVec F S9999 .f32 := (extractStridedSlice S9999 ![1] · slices_S10001_S9999_1) main_arg2
  let main_cst_0 : FVec F S_ .f32 := constant S_ .f32 0x42C80000#32
  let main_v8 : FVec F S9999 .f32 := broadcastInDim S9999 ![] bcast_S_S9999 main_cst_0
  let main_v9 : FVec F S9999 .f32 := mulf main_v7 main_v8
  let main_v10 : FVec F S9999 .f32 := subf main_v9 main_v3
  let main_v11 : FVec F S9999 .f32 := Host.absf main_v10
  let main_cst_1 : FVec F S_ .f32 := constant S_ .f32 0x3F000000#32
  let main_v12 : FVec F S9999 .f32 := broadcastInDim S9999 ![] bcast_S_S9999 main_cst_1
  let main_v13 : IVec S9999 1 := cmpf .olt main_v11 main_v12
  (main_v6, main_v13)
-- ==== Kernel.lean ====
abbrev S4096 : Shape := ⟨1, ![4096]⟩
abbrev S10001x4096 : Shape := ⟨2, ![10001, 4096]⟩
abbrev S10001 : Shape := ⟨1, ![10001]⟩
abbrev S40964096 : Shape := ⟨1, ![40964096]⟩
abbrev S128 : Shape := ⟨1, ![128]⟩
abbrev S_ : Shape := ⟨0, ![]⟩
abbrev S16 : Shape := ⟨1, ![16]⟩
abbrev S4096x1 : Shape := ⟨2, ![4096, 1]⟩

abbrev nBuf : Table → Nat
  | .hbm => 6
  | .local .scVector .vmem => 4
  | _ => 0

abbrev bufTy : (tb : Table) → Fin (nBuf tb) → BufTy
  | .hbm, ⟨0, _⟩ => ⟨S4096, .f32⟩
  | .hbm, ⟨1, _⟩ => ⟨S10001x4096, .f32⟩
  | .hbm, ⟨2, _⟩ => ⟨S10001, .f32⟩
  | .hbm, ⟨3, _⟩ => ⟨S40964096, .f32⟩
  | .hbm, ⟨4, _⟩ => ⟨S4096, .f32⟩
  | .hbm, ⟨5, _⟩ => ⟨S4096x1, .f32⟩
  | .local .scVector .vmem, ⟨0, _⟩ => ⟨S128, .f32⟩
  | .local .scVector .vmem, ⟨1, _⟩ => ⟨S10001, .f32⟩
  | .local .scVector .vmem, ⟨2, _⟩ => ⟨S128, .i32⟩
  | .local .scVector .vmem, ⟨3, _⟩ => ⟨S128, .f32⟩
  | _, _ => ⟨S4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]

def k0_chk1 (v27 : IVec S16 32) : Prop :=
  (∀ a x, ((![v27] : Fin 1 → IVec S16 32) a x).toNat < S10001.size a)
theorem k0_idx1_inb : ∀ (v27 : IVec S16 32) (k0_hw1 : k0_chk1 v27), ∀ a x, ((![v27] : Fin 1 → IVec S16 32) a x).toNat < S10001.size a := fun v27 k0_hw1 => k0_hw1

def k0_chk2 (v32 : IVec S16 32) : Prop :=
  (∀ a x, ((![v32] : Fin 1 → IVec S16 32) a x).toNat < S10001.size a)
theorem k0_idx2_inb : ∀ (v32 : IVec S16 32) (k0_hw2 : k0_chk2 v32), ∀ a x, ((![v32] : Fin 1 → IVec S16 32) a x).toNat < S10001.size a := fun v32 k0_hw2 => k0_hw2

def k0_chk3 (v37 : IVec S16 32) : Prop :=
  (∀ a x, ((![v37] : Fin 1 → IVec S16 32) a x).toNat < S10001.size a)
theorem k0_idx3_inb : ∀ (v37 : IVec S16 32) (k0_hw3 : k0_chk3 v37), ∀ a x, ((![v37] : Fin 1 → IVec S16 32) a x).toNat < S10001.size a := fun v37 k0_hw3 => k0_hw3

def k0_chk4 (v79 : IVec S16 32) : Prop :=
  (∀ a x, ((![v79] : Fin 1 → IVec S16 32) a x).toNat < S10001.size a)
theorem k0_idx4_inb : ∀ (v79 : IVec S16 32) (k0_hw4 : k0_chk4 v79), ∀ a x, ((![v79] : Fin 1 → IVec S16 32) a x).toNat < S10001.size a := fun v79 k0_hw4 => k0_hw4

def k0_chk5 (v84 : IVec S16 32) : Prop :=
  (∀ a x, ((![v84] : Fin 1 → IVec S16 32) a x).toNat < S10001.size a)
theorem k0_idx5_inb : ∀ (v84 : IVec S16 32) (k0_hw5 : k0_chk5 v84), ∀ a x, ((![v84] : Fin 1 → IVec S16 32) a x).toNat < S10001.size a := fun v84 k0_hw5 => k0_hw5

def k0_chk6 (v89 : IVec S16 32) : Prop :=
  (∀ a x, ((![v89] : Fin 1 → IVec S16 32) a x).toNat < S10001.size a)
theorem k0_idx6_inb : ∀ (v89 : IVec S16 32) (k0_hw6 : k0_chk6 v89), ∀ a x, ((![v89] : Fin 1 → IVec S16 32) a x).toNat < S10001.size a := fun v89 k0_hw6 => k0_hw6

def k0_chk7 (v131 : IVec S16 32) : Prop :=
  (∀ a x, ((![v131] : Fin 1 → IVec S16 32) a x).toNat < S10001.size a)
theorem k0_idx7_inb : ∀ (v131 : IVec S16 32) (k0_hw7 : k0_chk7 v131), ∀ a x, ((![v131] : Fin 1 → IVec S16 32) a x).toNat < S10001.size a := fun v131 k0_hw7 => k0_hw7

def k0_chk8 (v136 : IVec S16 32) : Prop :=
  (∀ a x, ((![v136] : Fin 1 → IVec S16 32) a x).toNat < S10001.size a)
theorem k0_idx8_inb : ∀ (v136 : IVec S16 32) (k0_hw8 : k0_chk8 v136), ∀ a x, ((![v136] : Fin 1 → IVec S16 32) a x).toNat < S10001.size a := fun v136 k0_hw8 => k0_hw8

def k0_chk9 (v141 : IVec S16 32) : Prop :=
  (∀ a x, ((![v141] : Fin 1 → IVec S16 32) a x).toNat < S10001.size a)
theorem k0_idx9_inb : ∀ (v141 : IVec S16 32) (k0_hw9 : k0_chk9 v141), ∀ a x, ((![v141] : Fin 1 → IVec S16 32) a x).toNat < S10001.size a := fun v141 k0_hw9 => k0_hw9

def k0_chk10 (v183 : IVec S16 32) : Prop :=
  (∀ a x, ((![v183] : Fin 1 → IVec S16 32) a x).toNat < S10001.size a)
theorem k0_idx10_inb : ∀ (v183 : IVec S16 32) (k0_hw10 : k0_chk10 v183), ∀ a x, ((![v183] : Fin 1 → IVec S16 32) a x).toNat < S10001.size a := fun v183 k0_hw10 => k0_hw10

def k0_chk11 (v188 : IVec S16 32) : Prop :=
  (∀ a x, ((![v188] : Fin 1 → IVec S16 32) a x).toNat < S10001.size a)
theorem k0_idx11_inb : ∀ (v188 : IVec S16 32) (k0_hw11 : k0_chk11 v188), ∀ a x, ((![v188] : Fin 1 → IVec S16 32) a x).toNat < S10001.size a := fun v188 k0_hw11 => k0_hw11

def k0_chk12 (v193 : IVec S16 32) : Prop :=
  (∀ a x, ((![v193] : Fin 1 → IVec S16 32) a x).toNat < S10001.size a)
theorem k0_idx12_inb : ∀ (v193 : IVec S16 32) (k0_hw12 : k0_chk12 v193), ∀ a x, ((![v193] : Fin 1 → IVec S16 32) a x).toNat < S10001.size a := fun v193 k0_hw12 => k0_hw12

def k0_chk13 (v235 : IVec S16 32) : Prop :=
  (∀ a x, ((![v235] : Fin 1 → IVec S16 32) a x).toNat < S10001.size a)
theorem k0_idx13_inb : ∀ (v235 : IVec S16 32) (k0_hw13 : k0_chk13 v235), ∀ a x, ((![v235] : Fin 1 → IVec S16 32) a x).toNat < S10001.size a := fun v235 k0_hw13 => k0_hw13

def k0_chk14 (v240 : IVec S16 32) : Prop :=
  (∀ a x, ((![v240] : Fin 1 → IVec S16 32) a x).toNat < S10001.size a)
theorem k0_idx14_inb : ∀ (v240 : IVec S16 32) (k0_hw14 : k0_chk14 v240), ∀ a x, ((![v240] : Fin 1 → IVec S16 32) a x).toNat < S10001.size a := fun v240 k0_hw14 => k0_hw14

def k0_chk15 (v245 : IVec S16 32) : Prop :=
  (∀ a x, ((![v245] : Fin 1 → IVec S16 32) a x).toNat < S10001.size a)
theorem k0_idx15_inb : ∀ (v245 : IVec S16 32) (k0_hw15 : k0_chk15 v245), ∀ a x, ((![v245] : Fin 1 → IVec S16 32) a x).toNat < S10001.size a := fun v245 k0_hw15 => k0_hw15

def k0_chk16 (v287 : IVec S16 32) : Prop :=
  (∀ a x, ((![v287] : Fin 1 → IVec S16 32) a x).toNat < S10001.size a)
theorem k0_idx16_inb : ∀ (v287 : IVec S16 32) (k0_hw16 : k0_chk16 v287), ∀ a x, ((![v287] : Fin 1 → IVec S16 32) a x).toNat < S10001.size a := fun v287 k0_hw16 => k0_hw16

def k0_chk17 (v292 : IVec S16 32) : Prop :=
  (∀ a x, ((![v292] : Fin 1 → IVec S16 32) a x).toNat < S10001.size a)
theorem k0_idx17_inb : ∀ (v292 : IVec S16 32) (k0_hw17 : k0_chk17 v292), ∀ a x, ((![v292] : Fin 1 → IVec S16 32) a x).toNat < S10001.size a := fun v292 k0_hw17 => k0_hw17

def k0_chk18 (v297 : IVec S16 32) : Prop :=
  (∀ a x, ((![v297] : Fin 1 → IVec S16 32) a x).toNat < S10001.size a)
theorem k0_idx18_inb : ∀ (v297 : IVec S16 32) (k0_hw18 : k0_chk18 v297), ∀ a x, ((![v297] : Fin 1 → IVec S16 32) a x).toNat < S10001.size a := fun v297 k0_hw18 => k0_hw18

def k0_chk19 (v339 : IVec S16 32) : Prop :=
  (∀ a x, ((![v339] : Fin 1 → IVec S16 32) a x).toNat < S10001.size a)
theorem k0_idx19_inb : ∀ (v339 : IVec S16 32) (k0_hw19 : k0_chk19 v339), ∀ a x, ((![v339] : Fin 1 → IVec S16 32) a x).toNat < S10001.size a := fun v339 k0_hw19 => k0_hw19

def k0_chk20 (v344 : IVec S16 32) : Prop :=
  (∀ a x, ((![v344] : Fin 1 → IVec S16 32) a x).toNat < S10001.size a)
theorem k0_idx20_inb : ∀ (v344 : IVec S16 32) (k0_hw20 : k0_chk20 v344), ∀ a x, ((![v344] : Fin 1 → IVec S16 32) a x).toNat < S10001.size a := fun v344 k0_hw20 => k0_hw20

def k0_chk21 (v349 : IVec S16 32) : Prop :=
  (∀ a x, ((![v349] : Fin 1 → IVec S16 32) a x).toNat < S10001.size a)
theorem k0_idx21_inb : ∀ (v349 : IVec S16 32) (k0_hw21 : k0_chk21 v349), ∀ a x, ((![v349] : Fin 1 → IVec S16 32) a x).toNat < S10001.size a := fun v349 k0_hw21 => k0_hw21

def k0_chk22 (v391 : IVec S16 32) : Prop :=
  (∀ a x, ((![v391] : Fin 1 → IVec S16 32) a x).toNat < S10001.size a)
theorem k0_idx22_inb : ∀ (v391 : IVec S16 32) (k0_hw22 : k0_chk22 v391), ∀ a x, ((![v391] : Fin 1 → IVec S16 32) a x).toNat < S10001.size a := fun v391 k0_hw22 => k0_hw22

def k0_chk23 (v396 : IVec S16 32) : Prop :=
  (∀ a x, ((![v396] : Fin 1 → IVec S16 32) a x).toNat < S10001.size a)
theorem k0_idx23_inb : ∀ (v396 : IVec S16 32) (k0_hw23 : k0_chk23 v396), ∀ a x, ((![v396] : Fin 1 → IVec S16 32) a x).toNat < S10001.size a := fun v396 k0_hw23 => k0_hw23

def k0_chk24 (v401 : IVec S16 32) : Prop :=
  (∀ a x, ((![v401] : Fin 1 → IVec S16 32) a x).toNat < S10001.size a)
theorem k0_idx24_inb : ∀ (v401 : IVec S16 32) (k0_hw24 : k0_chk24 v401), ∀ a x, ((![v401] : Fin 1 → IVec S16 32) a x).toNat < S10001.size a := fun v401 k0_hw24 => k0_hw24
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S10001x4096 : Shape := ⟨2, ![10001, 4096]⟩
abbrev S10001 : Shape := ⟨1, ![10001]⟩
abbrev S9999 : Shape := ⟨1, ![9999]⟩
abbrev S4096x1 : Shape := ⟨2, ![4096, 1]⟩
abbrev S1x9999 : Shape := ⟨2, ![1, 9999]⟩
abbrev S4096x9999 : Shape := ⟨2, ![4096, 9999]⟩
abbrev S_ : Shape := ⟨0, ![]⟩
abbrev S9999x4096 : Shape := ⟨2, ![9999, 4096]⟩
abbrev S4096x2 : Shape := ⟨2, ![4096, 2]⟩

abbrev nBuf : Space → Nat
  | .hbm => 36
  | .vmem => 0
  | .smem => 0
  | _ => 0

abbrev bufTy : (tb : Table) → Fin (tcTables nBuf tb) → BufTy
  | .hbm, ⟨0, _⟩ => ⟨S4096, .f32⟩
  | .hbm, ⟨1, _⟩ => ⟨S10001x4096, .f32⟩
  | .hbm, ⟨2, _⟩ => ⟨S10001, .f32⟩
  | .hbm, ⟨3, _⟩ => ⟨S9999, .f32⟩
  | .hbm, ⟨4, _⟩ => ⟨S4096x1, .f32⟩
  | .hbm, ⟨5, _⟩ => ⟨S1x9999, .f32⟩
  | .hbm, ⟨6, _⟩ => ⟨S4096x9999, .f32⟩
  | .hbm, ⟨7, _⟩ => ⟨S4096x9999, .f32⟩
  | .hbm, ⟨8, _⟩ => ⟨S4096x9999, .f32⟩
  | .hbm, ⟨9, _⟩ => ⟨S4096x9999, .f32⟩
  | .hbm, ⟨10, _⟩ => ⟨S4096x9999, .i32⟩
  | .hbm, ⟨11, _⟩ => ⟨S_, .f32⟩
  | .hbm, ⟨12, _⟩ => ⟨S_, .i32⟩
  | .hbm, ⟨13, _⟩ => ⟨S4096, .f32⟩
  | .hbm, ⟨14, _⟩ => ⟨S4096, .i32⟩
  | .hbm, ⟨15, _⟩ => ⟨S9999x4096, .f32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1, .i32⟩
  | .hbm, ⟨33, _⟩ => ⟨S4096x2, .i32⟩
  | .hbm, ⟨34, _⟩ => ⟨S4096, .f32⟩
  | .hbm, ⟨35, _⟩ => ⟨S4096x1, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.Lane.lean ====
/-
  One lane of the kernel, as a function of numbers: from a query `x` and the grid `ts`, the grid index the lane
  chooses (`best`) and the place in the flattened trajectories it then reads (`slotWord`). The functions are stated at
  any floats and any float operations, so that both printed forms of the kernel use them. What is proved here is about
  32-bit words only: a chosen index is at most 9998 whatever the query and the grid hold, hence every place the lane
  reads is inside the array it reads.
-/
module

public import Idealize.ShloMosaic.PureOps

@[expose] public section

noncomputable section

namespace Cert.Proof.Lane

open Idealize.ShloMosaic

/-- A word brought into 0 … 9998, read as a signed number. -/
def clip (v : BitVec 32) : BitVec 32 := IntOp.minsi 9998#32 (IntOp.maxsi 0#32 v)

/-- The clipped word's signed value: the signed value clamped to 0 … 9998. -/
theorem clip_toInt (v : BitVec 32) : (clip v).toInt = min 9998 (max 0 v.toInt) := by
  unfold clip IntOp.minsi IntOp.maxsi
  simp only [BitVec.slt_eq_decide, decide_eq_true_eq]
  have h0 : (0#32 : BitVec 32).toInt = 0 := by decide
  have h1 : (9998#32 : BitVec 32).toInt = 9998 := by decide
  split <;> split <;> omega

/-- A clipped word is at most 9998. -/
theorem clip_le (v : BitVec 32) : (clip v).toNat ≤ 9998 := by
  have h := clip_toInt v
  have h2 := BitVec.toInt_eq_toNat_cond (clip v)
  have h3 := (clip v).isLt
  split at h2 <;> omega

/-- The clipped word's value: the signed value clamped to 0 … 9998. -/
theorem clip_toNat (v : BitVec 32) : ((clip v).toNat : Int) = min 9998 (max 0 v.toInt) := by
  have h := clip_toInt v
  have h2 := BitVec.toInt_eq_toNat_cond (clip v)
  have h3 := clip_le v
  split at h2 <;> omega

/-- One above a word that is at most 9998, without wrapping. -/
theorem succ_toNat {v : BitVec 32} (h : v.toNat ≤ 9998) : (IntOp.addi v 1#32).toNat = v.toNat + 1 := by
  unfold IntOp.addi
  rw [BitVec.toNat_add, BitVec.toNat_ofNat]
  omega

variable {F : FTy → Type} [FloatOps F]

/-- The grid as the kernel holds it. -/
abbrev Grid (F : FTy → Type) : Type := FVec F ⟨1, ![10001]⟩ .f32

/-- The grid's entry one above the index `v` (the grid's first entry belongs to no index). -/
def gridAt (ts : Grid F) (v : BitVec 32) : F .f32 := ts (Shape.ofLane (d := ![10001]) ⟨(v.toNat + 1) % 10001, (Nat.mod_lt _ (by decide) : _ < 10001)⟩)

/-- The index around which a lane looks: one hundred times the query plus a half, as a word. -/
def centre (x : F .f32) : BitVec 32 :=
  FloatOps.fptosi 32 (FloatOps.addf (FloatOps.mulf x (Scalar.ofBits .f32 0x42C80000#32)) (Scalar.ofBits .f32 0x3F000000#32))

/-- The three indices a lane compares. -/
def cand0 (x : F .f32) : BitVec 32 := clip (IntOp.subi (centre x) 2#32)
def cand1 (x : F .f32) : BitVec 32 := clip (IntOp.subi (centre x) 1#32)
def cand2 (x : F .f32) : BitVec 32 := clip (centre x)

/-- How far the query is from the grid point of index `v`. -/
def dist (ts : Grid F) (x : F .f32) (v : BitVec 32) : F .f32 := FloatOps.absf (FloatOps.subf x (gridAt ts v))

/-- Whether the second index is strictly nearer than the first. -/
def nearer1 (ts : Grid F) (x : F .f32) : BitVec 1 := FloatOps.cmpf .olt (dist ts x (cand1 x)) (dist ts x (cand0 x))
/-- Whether the third index is strictly nearer than the nearer of the first two. -/
def nearer2 (ts : Grid F) (x : F .f32) : BitVec 1 :=
  FloatOps.cmpf .olt (dist ts x (cand2 x)) (Scalar.select (nearer1 ts x) (dist ts x (cand1 x)) (dist ts x (cand0 x)))

/-- The index a lane chooses: a later one of the three only when it is strictly nearer. -/
def best (ts : Grid F) (x : F .f32) : BitVec 32 :=
  Scalar.select (nearer2 ts x) (cand2 x) (Scalar.select (nearer1 ts x) (cand1 x) (cand0 x))

theorem best_le (ts : Grid F) (x : F .f32) : (best ts x).toNat ≤ 9998 := by
  unfold best Scalar.select
  split
  · exact clip_le _
  split
  · exact clip_le _
  · exact clip_le _

/-- The place in the flattened trajectories, as the kernel computes it: row `best + 1`, and in it the query's own
    place, added up of the tile's first query, the chunk's first lane and the lane. -/
def slotWord (ts : Grid F) (x : F .f32) (base chunk lane : BitVec 32) : BitVec 32 :=
  IntOp.addi (IntOp.addi (IntOp.addi (IntOp.muli (IntOp.addi (best ts x) 1#32) 4096#32) base) chunk) lane

theorem slotWord_toNat (ts : Grid F) (x : F .f32) (base chunk lane : BitVec 32) (h : base.toNat + chunk.toNat + lane.toNat < 4096) :
    (slotWord ts x base chunk lane).toNat = ((best ts x).toNat + 1) * 4096 + (base.toNat + chunk.toNat + lane.toNat) := by
  have hb := best_le ts x
  have hs := succ_toNat hb
  unfold slotWord
  simp only [IntOp.addi, IntOp.muli] at hs ⊢
  simp only [BitVec.toNat_add, BitVec.toNat_mul, BitVec.toNat_ofNat] at hs ⊢
  omega

/-- What the queries `x` get from the flat samples `ys`: place `j`'s is the sample in the row above the index its query
    chooses, at column `j`. -/
def sampled (x : FVec F ⟨1, ![4096]⟩ .f32) (ts : Grid F) (ys : FVec F ⟨1, ![40964096]⟩ .f32) : FVec F ⟨1, ![4096]⟩ .f32 := fun j =>
  ys (Shape.ofLane (d := ![40964096]) ⟨(((best ts (x j)).toNat + 1) * 4096 + (j 0).val) % 40964096, (Nat.mod_lt _ (by decide) : _ < 40964096)⟩)

end Cert.Proof.Lane

end
-- ==== Proof.KernelIdealChunk.lean ====
/-
  The kernel's body as eight equal pieces. The printed body is one line of operations; here it is the same program
  with the work on each sixteen queries written once (`chunk`), at the place of those queries in the tile's block.
-/
module

public import proofs.«01_k».proof.Defs
public import proofs.«01_k».proof.Proof.Lane
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen Cert.Proof.Lane
open Idealize.ShloMosaic Idealize.SL.Sem

variable {F : FTy → Type} [FloatOps F]

/-- Sixteen lanes' grid positions: one above each lane's first, second, third index. -/
def pos0 (x : FVec F S16 .f32) : IVec S16 32 := fun l => IntOp.addi (cand0 (x l)) 1#32
def pos1 (x : FVec F S16 .f32) : IVec S16 32 := fun l => IntOp.addi (cand1 (x l)) 1#32
def pos2 (x : FVec F S16 .f32) : IVec S16 32 := fun l => IntOp.addi (cand2 (x l)) 1#32

/-- The sixteen words a chunk stores, from its queries `x` and the three grid points `g0 g1 g2` read for each. -/
def rowOf (w : BitVec 32) (o : ℕ) (x g0 g1 g2 : FVec F S16 .f32) : IVec S16 32 := fun l =>
  let d0 := FloatOps.absf (FloatOps.subf (x l) (g0 l))
  let d1 := FloatOps.absf (FloatOps.subf (x l) (g1 l))
  let d2 := FloatOps.absf (FloatOps.subf (x l) (g2 l))
  let n1 := FloatOps.cmpf .olt d1 d0
  let n2 := FloatOps.cmpf .olt d2 (Scalar.select n1 d1 d0)
  IntOp.addi (IntOp.addi (IntOp.addi (IntOp.muli (IntOp.addi
    (Scalar.select n2 (cand2 (x l)) (Scalar.select n1 (cand1 (x l)) (cand0 (x l)))) 1#32) 4096#32) w) (BitVec.ofNat 32 o))
    (iota .scVector S16 32 [0] iota_S16_d0_w32_scVector l)

/-- The work on the sixteen queries from place `o` of the tile's block on: the queries loaded, the three grid points of
    each lane fetched under their range checks, the sixteen words stored at the same place of the list. -/
def chunk (i : grid0.Coords) (arg6 : Memref sig .scVector .vmem S128 .f32) (arg7 : Memref sig .scVector .vmem S10001 .f32)
    (arg8 : Memref sig .scVector .vmem S128 .i32) (w : BitVec 32) (o : ℕ) (ho : ∀ a, (![o] : Fin 1 → Nat) a + S16.size a ≤ S128.size a) :
    Prog (TpuEff nD τ sig (Elt F) Λ₀ (.scVector ((i 0).castLE hcore0) ((i 1).castLE hsub0))) PUnit := do
  let x : Vec F S16 .f32 ← Prog.lift (.load arg6 (Rect.unit (s := S128) ![o] S16.size ho).toLoadRect (View.loadsAt_vmem h_S16))
  have h0 : k0_chk1 (pos0 x) := (← Prog.lift (TpuEff.assume (k0_chk1 (pos0 x)) (k0_chk1.dec (pos0 x)))).down
  let g0 : Vec F S16 .f32 ← SparseCore.vectorLoadIdx arg7 ![pos0 x] (k0_idx1_inb (pos0 x) h0) (View.loads_vmem h_S10001)
  have h1 : k0_chk1 (pos1 x) := (← Prog.lift (TpuEff.assume (k0_chk1 (pos1 x)) (k0_chk1.dec (pos1 x)))).down
  let g1 : Vec F S16 .f32 ← SparseCore.vectorLoadIdx arg7 ![pos1 x] (k0_idx1_inb (pos1 x) h1) (View.loads_vmem h_S10001)
  have h2 : k0_chk1 (pos2 x) := (← Prog.lift (TpuEff.assume (k0_chk1 (pos2 x)) (k0_chk1.dec (pos2 x)))).down
  let g2 : Vec F S16 .f32 ← SparseCore.vectorLoadIdx arg7 ![pos2 x] (k0_idx1_inb (pos2 x) h2) (View.loads_vmem h_S10001)
  let _old : Vec F S16 .i32 ← Prog.lift (.load arg8 (Rect.unit (s := S128) ![o] S16.size ho).toLoadRect (View.loadsAt_vmem h_S16))
  Prog.lift (.store arg8 (Rect.unit (s := S128) ![o] S16.size ho) (rowOf w o x g0 g1 g2) Finset.univ (View.stores_vmem_bits_univ h_S16 rfl) (.inl rfl))

/-- The tile's first query, as the kernel computes it from its place in the launch. -/
def baseWord (i : grid0.Coords) : BitVec 32 :=
  Scalar.muli (Scalar.addi (Scalar.muli (BitVec.ofNat 32 (i 1).val) 2#32) (BitVec.ofNat 32 (i 0).val)) 128#32

/-- The whole body: the queries and the grid copied in, the eight chunks, the gather of the samples, the copy out. -/
def body (i : grid0.Coords) (arg2 : Memref sig .scVector .hbm S4096 .f32) (_harg2 : arg2.IsWhole) (arg3 : Memref sig .scVector .hbm S10001 .f32) (harg3 : arg3.IsWhole)
    (arg4 : Memref sig .scVector .hbm S40964096 .f32) (_harg4 : arg4.IsWhole) (arg5 : Memref sig .scVector .hbm S4096 .f32) (_harg5 : arg5.IsWhole)
    (arg6 : Memref sig .scVector .vmem S128 .f32) (harg6 : arg6.IsWhole) (arg7 : Memref sig .scVector .vmem S10001 .f32) (harg7 : arg7.IsWhole)
    (arg8 : Memref sig .scVector .vmem S128 .i32) (_harg8 : arg8.IsWhole) (arg9 : Memref sig .scVector .vmem S128 .f32) (harg9 : arg9.IsWhole)
    (arg10 : DmaSems sig S_) (r0 : DmaSems sig S_) (r1 : DmaSems sig S_) (r2 : DmaSems sig S_) :
    Prog (TpuEff nD τ sig (Elt F) Λ₀ (.scVector ((i 0).castLE hcore0) ((i 1).castLE hsub0))) PUnit := do
  let src : Memref sig .scVector .hbm S128 .f32 := arg2.slice (Rect.unit (s := S4096) (k0_off1 i) S128.size (k0_off1_inb i)) (fun _ => rfl)
  let all : Memref sig .scVector .hbm S40964096 .f32 := arg4.slice (Rect.unit (s := S40964096) ![0] S40964096.size inb_S40964096_S40964096_0) (fun _ => rfl)
  let dst : Memref sig .scVector .hbm S128 .f32 := arg5.slice (Rect.unit (s := S4096) (k0_off2 i) S128.size (k0_off2_inb i)) (fun _ => rfl)
  Prog.lift (.enqueueDma src (.here arg6) (.dma r0.sem) (View.wordExact_bits rfl) harg6.wordExact ⟨Or.inl rfl, trivial⟩)
  Prog.lift (.waitDma2 r0.sem src arg6 (View.wordExact_bits rfl) harg6.wordExact)
  Prog.lift (.enqueueDma arg3 (.here arg7) (.dma r1.sem) harg3.wordExact harg7.wordExact ⟨Or.inl rfl, trivial⟩)
  Prog.lift (.waitDma2 r1.sem arg3 arg7 harg3.wordExact harg7.wordExact)
  chunk i arg6 arg7 arg8 (baseWord i) 0 inb_S128_S16_0
  chunk i arg6 arg7 arg8 (baseWord i) 16 inb_S128_S16_16
  chunk i arg6 arg7 arg8 (baseWord i) 32 inb_S128_S16_32
  chunk i arg6 arg7 arg8 (baseWord i) 48 inb_S128_S16_48
  chunk i arg6 arg7 arg8 (baseWord i) 64 inb_S128_S16_64
  chunk i arg6 arg7 arg8 (baseWord i) 80 inb_S128_S16_80
  chunk i arg6 arg7 arg8 (baseWord i) 96 inb_S128_S16_96
  chunk i arg6 arg7 arg8 (baseWord i) 112 inb_S128_S16_112
  SparseCore.enqueueIndirectGather rfl all arg9 gathers_S40964096_S128 arg8 rfl arg10.sem (View.wordExact_bits rfl) rfl (Or.inl rfl)
  SparseCore.waitIndirectGather arg10.sem all arg9 (View.wordExact_bits rfl) harg9.wordExact
  Prog.lift (.enqueueDma arg9 (.here dst) (.dma r2.sem) harg9.wordExact (View.wordExact_bits rfl) ⟨Or.inl rfl, trivial⟩)
  Prog.lift (.waitDma2 r2.sem arg9 dst harg9.wordExact (View.wordExact_bits rfl))
  pure ⟨⟩

set_option maxRecDepth 65536 in
set_option maxHeartbeats 4000000 in
/-- The printed body is that program. -/
theorem body_eq : cc0__nn_gather_body (F := F) = body (F := F) := rfl

end Cert.KernelIdeal.Tile

end
-- ==== Proof.KernelIdealStep.lean ====
/-
  One chunk's run. A tile that holds its block of queries, the grid and its list of places runs the work on sixteen
  queries to the end, every range check passing whatever the queries and the grid hold, and leaves the list as it was
  but for those sixteen entries, each now the place that `Lane.best` of its query names.
-/
module

public import proofs.«01_k».proof.Proof.KernelIdealChunk
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Tactic

@[expose] public section

noncomputable section

namespace Cert.KernelIdeal.Tile

open Cert.KernelIdeal Cert.KernelIdeal.Gen Cert.Proof.Lane
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile's own buffers -/

abbrev cV (L : grid0.Coords) : Fin τ.nSC := (L 0).castLE hcore0
abbrev jV (L : grid0.Coords) : Fin τ.nSub := (L 1).castLE hsub0

/-- The tile's block of queries, the grid, its list of places, the samples it gathers. -/
local notation "qV" => (Memref.whole Cert.KernelIdeal.cc0_scratch0 : Memref Cert.KernelIdeal.sig Kind.scVector Space.vmem Cert.KernelIdeal.S128 EltTy.f32)
local notation "tV" => (Memref.whole Cert.KernelIdeal.cc0_scratch1 : Memref Cert.KernelIdeal.sig Kind.scVector Space.vmem Cert.KernelIdeal.S10001 EltTy.f32)
local notation "lV" => (Memref.whole Cert.KernelIdeal.cc0_scratch2 : Memref Cert.KernelIdeal.sig Kind.scVector Space.vmem Cert.KernelIdeal.S128 EltTy.i32)
local notation "gV" => (Memref.whole Cert.KernelIdeal.cc0_scratch3 : Memref Cert.KernelIdeal.sig Kind.scVector Space.vmem Cert.KernelIdeal.S128 EltTy.f32)

variable [FloatOps F]

/-- The first `n` entries of the list `fl` name, each, the row above the index its query chooses, at the query's own place. -/
def Listed (w : BitVec 32) (ft : FVec F S10001 .f32) (fq : FVec F S128 .f32) (n : ℕ) (fl : IVec S128 32) : Prop :=
  ∀ k : S128.Idx, (k 0).val < n → (fl k).toNat = ((best ft (fq k)).toNat + 1) * 4096 + (w.toNat + (k 0).val)

/-- Every grid position a chunk names is inside the grid. -/
theorem chk_pos0 (x : FVec F S16 .f32) : k0_chk1 (pos0 x) := by
  intro a l
  match a with
  | 0 => exact (succ_toNat (clip_le _)).trans_lt (Nat.lt_of_le_of_lt (Nat.succ_le_succ (clip_le _)) (by decide))
theorem chk_pos1 (x : FVec F S16 .f32) : k0_chk1 (pos1 x) := by
  intro a l
  match a with
  | 0 => exact (succ_toNat (clip_le _)).trans_lt (Nat.lt_of_le_of_lt (Nat.succ_le_succ (clip_le _)) (by decide))
theorem chk_pos2 (x : FVec F S16 .f32) : k0_chk1 (pos2 x) := by
  intro a l
  match a with
  | 0 => exact (succ_toNat (clip_le _)).trans_lt (Nat.lt_of_le_of_lt (Nat.succ_le_succ (clip_le _)) (by decide))

/-- A grid point fetched one above a clipped index is the grid's entry for that index. -/
theorem fetched (ft : FVec F S10001 .f32) (x : FVec F S16 .f32) (c : F .f32 → BitVec 32) (hc : ∀ y, (c y).toNat ≤ 9998)
    (h : ∀ a l, ((![fun l => IntOp.addi (c (x l)) 1#32] : Fin 1 → IVec S16 32) a l).toNat < S10001.size a) (l : S16.Idx) :
    (loadIdx (F := F) (e := .f32) ft ![fun l => IntOp.addi (c (x l)) 1#32] h l : F .f32) = gridAt ft (c (x l)) := by
  unfold loadIdx gridAt
  congr 1
  funext a
  match a with
  | 0 =>
    apply Fin.ext
    show (IntOp.addi (c (x l)) 1#32).toNat = ((c (x l)).toNat + 1) % 10001
    rw [succ_toNat (hc _), Nat.mod_eq_of_lt (by have := hc (x l); omega)]

variable (d : Dev nD) (L : grid0.Coords)

/-- The place `o + l` of a block of 128. -/
def placeOf (o : ℕ) (ho : ∀ a, (![o] : Fin 1 → Nat) a + S16.size a ≤ S128.size a) (l : S16.Idx) : S128.Idx :=
  (Rect.unit (s := S128) ![o] S16.size ho).emb l

theorem placeOf_val (o : ℕ) (ho : ∀ a, (![o] : Fin 1 → Nat) a + S16.size a ≤ S128.size a) (l : S16.Idx) :
    (placeOf o ho l 0).val = o + (l 0).val := by
  simp [placeOf, Rect.emb, Rect.unit]

/-- A chunk's store extends the right part of the list by its sixteen entries. -/
theorem listed_step (w : BitVec 32) (hw : w.toNat + 128 ≤ 4096) (o : ℕ) (ho : ∀ a, (![o] : Fin 1 → Nat) a + S16.size a ≤ S128.size a)
    (ft : FVec F S10001 .f32) (fq : FVec F S128 .f32) (fl : IVec S128 32) (hfl : Listed (F := F) w ft fq o fl)
    (x g0 g1 g2 : FVec F S16 .f32) (hx : ∀ l, x l = fq (placeOf o ho l)) (h0 : ∀ l, g0 l = gridAt ft (cand0 (x l)))
    (h1 : ∀ l, g1 l = gridAt ft (cand1 (x l))) (h2 : ∀ l, g2 l = gridAt ft (cand2 (x l))) :
    Listed (F := F) w ft fq (o + 16)
      (((lV).access (Rect.unit (s := S128) ![o] S16.size ho)).write (Elt F) fl (rowOf w o x g0 g1 g2) Finset.univ) := by
  intro k hk
  have ho' : o + 16 ≤ 128 := ho 0
  by_cases hlt : (k 0).val < o
  · rw [← hfl k hlt]
    refine congrArg BitVec.toNat ?_
    exact View.read_writes_cons_miss_of_axis (Val := Elt F) (lV).view fl ⟨Rect.unit (s := S128) ![o] S16.size ho, rowOf w o x g0 g1 g2⟩ [] k 0 o 16
      rfl rfl rfl (Or.inl hlt)
  · let l : S16.Idx := fun a => match a with | 0 => ⟨(k 0).val - o, by show _ < 16; omega⟩
    have hkl : k = placeOf o ho l := by
      funext a
      match a with
      | 0 => exact Fin.ext (by rw [placeOf_val]; show _ = o + ((k 0).val - o); omega)
    have hval : rowOf w o x g0 g1 g2 l = slotWord ft (x l) w (BitVec.ofNat 32 o) (BitVec.ofNat 32 (l 0).val) := by
      unfold rowOf slotWord best nearer2 nearer1 Cert.Proof.Lane.dist
      rw [h0 l, h1 l, h2 l, show iota .scVector S16 32 [0] iota_S16_d0_w32_scVector l = BitVec.ofNat 32 (l 0).val from
        congrArg (BitVec.ofNat 32) ((congrArg (· + (l 0).val) (Nat.zero_mul _)).trans (Nat.zero_add _))]
    have hs := View.read_writes_cons_hit (Val := Elt F) (lV).view fl (Rect.unit (s := S128) ![o] S16.size ho) (rowOf w o x g0 g1 g2) [] l k hkl.symm
    refine (congrArg BitVec.toNat hs).trans ?_
    have hl : (l 0).val = (k 0).val - o := rfl
    have e1 : (BitVec.ofNat 32 o).toNat = o := by simp; omega
    have e2 : (BitVec.ofNat 32 (l 0).val).toNat = (l 0).val := by simp; omega
    rw [hval, slotWord_toNat _ _ _ _ _ (by rw [e1, e2]; omega), hx l, ← hkl, e1, e2]
    omega

/-- The queries a chunk loads. -/
def queries (o : ℕ) (ho : ∀ a, (![o] : Fin 1 → Nat) a + S16.size a ≤ S128.size a) (fq : FVec F S128 .f32) : FVec F S16 .f32 :=
  fun l => fq (placeOf o ho l)

/-- The list after a chunk. -/
def newList (w : BitVec 32) (o : ℕ) (ho : ∀ a, (![o] : Fin 1 → Nat) a + S16.size a ≤ S128.size a) (ft : FVec F S10001 .f32)
    (fq : FVec F S128 .f32) (fl : IVec S128 32) : IVec S128 32 :=
  ((lV).access (Rect.unit (s := S128) ![o] S16.size ho)).write (Elt F) fl
    (rowOf w o (queries o ho fq)
      (loadIdx (F := F) (e := .f32) ft ![pos0 (queries o ho fq)] (k0_idx1_inb _ (chk_pos0 _)))
      (loadIdx (F := F) (e := .f32) ft ![pos1 (queries o ho fq)] (k0_idx1_inb _ (chk_pos1 _)))
      (loadIdx (F := F) (e := .f32) ft ![pos2 (queries o ho fq)] (k0_idx1_inb _ (chk_pos2 _)))) Finset.univ

theorem listed_new (w : BitVec 32) (hw : w.toNat + 128 ≤ 4096) (o : ℕ) (ho : ∀ a, (![o] : Fin 1 → Nat) a + S16.size a ≤ S128.size a)
    (ft : FVec F S10001 .f32) (fq : FVec F S128 .f32) (fl : IVec S128 32) (hfl : Listed (F := F) w ft fq o fl) :
    Listed (F := F) w ft fq (o + 16) (newList w o ho ft fq fl) :=
  listed_step w hw o ho ft fq fl hfl _ _ _ _ (fun _ => rfl) (fetched ft _ cand0 (fun _ => clip_le _) _)
    (fetched ft _ cand1 (fun _ => clip_le _) _) (fetched ft _ cand2 (fun _ => clip_le _) _)

set_option maxHeartbeats 1000000 in
/-- The run of one chunk: the checks pass; afterwards sixteen more entries of the list are right. -/
theorem wp_chunk (w : BitVec 32) (hw : w.toNat + 128 ≤ 4096) (o : ℕ) (ho : ∀ a, (![o] : Fin 1 → Nat) a + S16.size a ≤ S128.size a)
    (fq : Buf (Elt F) ((qV).view.loc (V d (cV L) (jV L)))) (ft : Buf (Elt F) ((tV).view.loc (V d (cV L) (jV L))))
    (fl : Buf (Elt F) ((lV).view.loc (V d (cV L) (jV L)))) (hfl : Listed (F := F) w ft fq o fl)
    (k : PUnit → Prog (TpuEff nD τ sig (Elt F) Λ₀ (.scVector (cV L) (jV L))) PUnit) (Q : PUnit → sProp 𝕄) :
    iprop(((qV).view.loc (V d (cV L) (jV L)) ↦{fullShare} fq) ∗ ((tV).view.loc (V d (cV L) (jV L)) ↦{fullShare} ft)
        ∗ ((lV).view.loc (V d (cV L) (jV L)) ↦{fullShare} fl))
      ⊢ iprop((∀ fl', ⌜Listed (F := F) w ft fq (o + 16) fl'⌝ -∗ ((qV).view.loc (V d (cV L) (jV L)) ↦{fullShare} fq)
            -∗ ((tV).view.loc (V d (cV L) (jV L)) ↦{fullShare} ft) -∗ ((lV).view.loc (V d (cV L) (jV L)) ↦{fullShare} fl')
            -∗ wp frame (wpE (defs₀ (F := F)) 𝒱₀ (V d (cV L) (jV L)) none) Set.univ (k ⟨⟩) Q)
        -∗ wp frame (wpE (defs₀ (F := F)) 𝒱₀ (V d (cV L) (jV L)) none) Set.univ (chunk L qV tV lV w o ho >>= k) Q) := by
  unfold chunk
  simp only [Prog.lift, Prog.bind_op, Prog.bind_ret, Prog.pure_eq_ret, Prog.bind_assoc]
  iintro ⟨Hq, Ht, Hl⟩ Hk
  iapply (wp_load 𝒱₀ (V d (cV L) (jV L)) none Set.univ (m := qV) (S := Finset.univ) (Finset.subset_univ _)) $$ Hq; iintro Hq
  rw [show (qV).view.readAt (Elt F) (Rect.unit (s := S128) ![o] S16.size ho).toLoadRect fq = queries o ho fq from rfl]
  rw [wp_assume_of _ _ _ _ (chk_pos0 _)]
  iapply (SparseCore.wp_vectorLoadIdx 𝒱₀ (V d (cV L) (jV L)) none Set.univ (base := tV) (S := Finset.univ) (q := fullShare) (Finset.subset_univ _)) $$ Ht; iintro Ht
  rw [show ((tV).access (.whole cc0_scratch1.ty.shape)).read (Elt F) ft = ft from Memref.read_access_whole (Elt F) cc0_scratch1 ft]
  rw [wp_assume_of _ _ _ _ (chk_pos1 _)]
  iapply (SparseCore.wp_vectorLoadIdx 𝒱₀ (V d (cV L) (jV L)) none Set.univ (base := tV) (S := Finset.univ) (q := fullShare) (Finset.subset_univ _)) $$ Ht; iintro Ht
  rw [show ((tV).access (.whole cc0_scratch1.ty.shape)).read (Elt F) ft = ft from Memref.read_access_whole (Elt F) cc0_scratch1 ft]
  rw [wp_assume_of _ _ _ _ (chk_pos2 _)]
  iapply (SparseCore.wp_vectorLoadIdx 𝒱₀ (V d (cV L) (jV L)) none Set.univ (base := tV) (S := Finset.univ) (q := fullShare) (Finset.subset_univ _)) $$ Ht; iintro Ht
  rw [show ((tV).access (.whole cc0_scratch1.ty.shape)).read (Elt F) ft = ft from Memref.read_access_whole (Elt F) cc0_scratch1 ft]
  iapply (wp_load 𝒱₀ (V d (cV L) (jV L)) none Set.univ (m := lV) (S := Finset.univ) (Finset.subset_univ _)) $$ Hl; iintro Hl
  iapply (wp_store 𝒱₀ (V d (cV L) (jV L)) none Set.univ (m := lV) (r := Rect.unit (s := S128) ![o] S16.size ho) (Mk := Finset.univ) (S := Finset.univ) (Finset.subset_univ _)) $$ Hl; iintro Hl
  ispecialize Hk $$ %(newList w o ho ft fq fl) %(listed_new w hw o ho ft fq fl hfl) Hq Ht
  iapply Hk
  iexact Hl

end Cert.KernelIdeal.Tile

end
-- ==== Proof.KernelIdealTile.lean ====
/-
  One tile's run. Whatever the queries and the grid hold, the tile ends with its block of the result holding, at each
  place, the sample that `Lane.best` of the query there names, and with everything else it was given as it was.
-/
module

public import proofs.«01_k».proof.Proof.KernelIdealStep
public import Idealize.ShloMosaic.Lib.Pointwise.Reshape

@[expose] public section

noncomputable section

namespace Cert.KernelIdeal.Tile

open Cert.KernelIdeal Cert.KernelIdeal.Gen Cert.Proof.Lane
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev xLoc (d : Dev nD) : Loc nD τ sig := (SparseCore.T d).loc main_arg0
abbrev tLoc (d : Dev nD) : Loc nD τ sig := (SparseCore.T d).loc main_arg2
abbrev yLoc (d : Dev nD) : Loc nD τ sig := (SparseCore.T d).loc main_v0
abbrev oLoc (d : Dev nD) : Loc nD τ sig := (SparseCore.T d).loc main_v1

local notation "xV" => (Memref.whole Cert.KernelIdeal.main_arg0_scv : Memref Cert.KernelIdeal.sig Kind.scVector Space.hbm Cert.KernelIdeal.S4096 EltTy.f32)
local notation "sV" => (Memref.whole Cert.KernelIdeal.main_arg2_scv : Memref Cert.KernelIdeal.sig Kind.scVector Space.hbm Cert.KernelIdeal.S10001 EltTy.f32)
local notation "yV" => (Memref.whole Cert.KernelIdeal.main_v0_scv : Memref Cert.KernelIdeal.sig Kind.scVector Space.hbm Cert.KernelIdeal.S40964096 EltTy.f32)
local notation "oV" => (Memref.whole Cert.KernelIdeal.main_v1_scv : Memref Cert.KernelIdeal.sig Kind.scVector Space.hbm Cert.KernelIdeal.S4096 EltTy.f32)
local notation "qV" => (Memref.whole Cert.KernelIdeal.cc0_scratch0 : Memref Cert.KernelIdeal.sig Kind.scVector Space.vmem Cert.KernelIdeal.S128 EltTy.f32)
local notation "tV" => (Memref.whole Cert.KernelIdeal.cc0_scratch1 : Memref Cert.KernelIdeal.sig Kind.scVector Space.vmem Cert.KernelIdeal.S10001 EltTy.f32)
local notation "lV" => (Memref.whole Cert.KernelIdeal.cc0_scratch2 : Memref Cert.KernelIdeal.sig Kind.scVector Space.vmem Cert.KernelIdeal.S128 EltTy.i32)
local notation "gV" => (Memref.whole Cert.KernelIdeal.cc0_scratch3 : Memref Cert.KernelIdeal.sig Kind.scVector Space.vmem Cert.KernelIdeal.S128 EltTy.f32)

/-! ## A tile's block -/

theorem odiv : 32 ∣ S4096.size 0 := ⟨128, rfl⟩
/-- Block `t` of thirty-two. -/
abbrev blk (t : Fin 32) : Rect S4096 := Rect.part (s := S4096) (a₀ := 0) odiv t
abbrev blkSet (t : Fin 32) : Finset S4096.Idx := ((oV).view.slice (blk t)).set

theorem bound_zero : grid0.bound 0 = 2 := rfl
theorem bound_one : grid0.bound 1 = 16 := rfl
/-- Tile `s` of SparseCore `c` has block `2 s + c`. -/
def tix (c : Fin 2) (s : Fin 16) : Fin 32 := ⟨2 * s.val + c.val, by omega⟩
abbrev tL (L : grid0.Coords) : Fin 32 := tix (Fin.cast bound_zero (L 0)) (Fin.cast bound_one (L 1))

variable (d : Dev nD) (L : grid0.Coords)

abbrev xrowK (L : grid0.Coords) : Rect S4096 := Rect.unit (s := S4096) (k0_off1 L) S128.size (k0_off1_inb L)
abbrev orowK (L : grid0.Coords) : Rect S4096 := Rect.unit (s := S4096) (k0_off2 L) S128.size (k0_off2_inb L)
abbrev xRowK (L : grid0.Coords) : Memref sig .scVector .hbm S128 .f32 := (xV).slice (xrowK L) (fun _ => rfl)
abbrev oRowK (L : grid0.Coords) : Memref sig .scVector .hbm S128 .f32 := (oV).slice (orowK L) (fun _ => rfl)
abbrev yAllK : Memref sig .scVector .hbm S40964096 .f32 :=
  (yV).slice (Rect.unit (s := S40964096) ![0] S40964096.size inb_S40964096_S40964096_0) (fun _ => rfl)

theorem orowK_eq : orowK L = blk (tL L) := by
  unfold orowK blk Rect.part Rect.block
  congr 1 <;> funext a
  · rw [k0_off2_eq]
    match a with
    | 0 =>
      have h : (tL L).val = 2 * (L 1).val + (L 0).val := rfl
      simp [Shape.partIx, Shape.partSize]; omega
  · match a with
    | 0 => simp [Shape.partSize]

theorem set_oRowK : (oRowK L).view.set = blkSet (tL L) := by
  show ((oV).view.slice (orowK L)).set = ((oV).view.slice (blk (tL L))).set
  exact orowK_eq L ▸ rfl

theorem pts_oRowK (f : Buf (Elt F) (oLoc d)) :
    ((oRowK L).view.loc (V d (cV L) (jV L)) ↦[(oRowK L).view.set]{fullShare} f : sProp 𝕄) = oLoc d ↦[blkSet (tL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (q : PosShare TreeShare) (f : Buf (Elt F) (tLoc d)) :
    ((sV).view.loc (V d (cV L) (jV L)) ↦{q} f : sProp 𝕄) = tLoc d ↦{q} f := rfl
theorem pts_yV (q : PosShare TreeShare) (f : Buf (Elt F) (yLoc d)) :
    ((yV).view.loc (V d (cV L) (jV L)) ↦{q} f : sProp 𝕄) = yLoc d ↦{q} f := rfl

/-! ## The tile's own semaphores and buffers -/

abbrev cAcell (d : Dev nD) (c : Fin τ.nSC) (i : Fin τ.nSub) : GSem nD τ sig := (V d c i, .dma cc0_scratch4.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)
abbrev cDcell (d : Dev nD) (c : Fin τ.nSC) (i : Fin τ.nSub) : GSem nD τ sig := (V d c i, .dma cc0_scoped2.sem)

/-- The copies' and the stream's four cells are among the tile's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ semVal (cDcell d (cV L) (jV L)) 0
          ∗ bigSep (((((ownCells (V d (cV L) (jV L))).erase (cAcell d (cV L) (jV L))).erase (cBcell d (cV L) (jV L))).erase (cCcell d (cV L) (jV L))).erase
              (cDcell d (cV L) (jV L))) fun g => semVal g 0) := by
  have hA : cAcell d (cV L) (jV L) ∈ ownCells (V d (cV L) (jV L)) := mem_ownCells.mpr ⟨rfl, by
    show (SemLoc.dma cc0_scratch4.sem : SemLoc sig).isScoped .scVector = true; decide⟩
  have hB : cBcell d (cV L) (jV L) ∈ ownCells (V d (cV L) (jV L)) := mem_ownCells.mpr ⟨rfl, by
    show (SemLoc.dma cc0_scoped0.sem : SemLoc sig).isScoped .scVector = true; decide⟩
  have hC : cCcell d (cV L) (jV L) ∈ ownCells (V d (cV L) (jV L)) := mem_ownCells.mpr ⟨rfl, by
    show (SemLoc.dma cc0_scoped1.sem : SemLoc sig).isScoped .scVector = true; decide⟩
  have hD : cDcell d (cV L) (jV L) ∈ ownCells (V d (cV L) (jV L)) := mem_ownCells.mpr ⟨rfl, by
    show (SemLoc.dma cc0_scoped2.sem : SemLoc sig).isScoped .scVector = true; decide⟩
  have ne : ∀ {s s' : SemLoc sig}, s ≠ s' → ((V d (cV L) (jV L), s) : GSem nD τ sig) ≠ (V d (cV L) (jV L), s') :=
    fun h e => h (congrArg Prod.snd e)
  unfold SparseCore.Cfg.ownSems0
  rw [SparseCore.bigSep_erase' hA,
    SparseCore.bigSep_erase' (Finset.mem_erase.mpr ⟨ne (by decide), hB⟩),
    SparseCore.bigSep_erase' (Finset.mem_erase.mpr ⟨ne (by decide), Finset.mem_erase.mpr ⟨ne (by decide), hC⟩⟩),
    SparseCore.bigSep_erase' (Finset.mem_erase.mpr ⟨ne (by decide), Finset.mem_erase.mpr ⟨ne (by decide), Finset.mem_erase.mpr ⟨ne (by decide), hD⟩⟩⟩)]

/-- The four scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have mem : ∀ r : Ref sig .scVector, ((Proc.scVector (cV L) (jV L)).devRef r).owner = .proc (Proc.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) h
  have ne : ∀ {r r' : Ref sig .scVector}, r ≠ r' → (Proc.scVector (cV L) (jV L)).devRef r ≠ (Proc.scVector (cV L) (jV L)).devRef r' :=
    fun h e => h (Proc.devRef_injective _ e)
  unfold SparseCore.Cfg.ownBufs
  refine (SparseCore.bigSep_erase' (mem cc0_scratch0 rfl)).trans ?_
  rw [SparseCore.bigSep_erase' (Finset.mem_erase.mpr ⟨ne (by decide), mem cc0_scratch1 rfl⟩),
    SparseCore.bigSep_erase' (Finset.mem_erase.mpr ⟨ne (by decide), Finset.mem_erase.mpr ⟨ne (by decide), mem cc0_scratch2 rfl⟩⟩),
    SparseCore.bigSep_erase' (Finset.mem_erase.mpr ⟨ne (by decide), Finset.mem_erase.mpr ⟨ne (by decide), Finset.mem_erase.mpr ⟨ne (by decide), mem cc0_scratch3 rfl⟩⟩⟩)]

/-! ## What the tile holds on the way -/

/-- Place `k` of the tile's block, as a place of all 4096. -/
def place (k : S128.Idx) : S4096.Idx := (orowK L).emb k

theorem place_val (k : S128.Idx) : (place L k 0).val = 256 * (L 1).val + 128 * (L 0).val + (k 0).val := by
  have h : k0_off2 L 0 = 256 * (L 1).val + 128 * (L 0).val := congrFun (k0_off2_eq L) 0
  show k0_off2 L 0 + 1 * (k 0).val = _
  omega

theorem xplace (k : S128.Idx) : (xrowK L).emb k = place L k := by
  funext a
  match a with
  | 0 =>
    have h : k0_off1 L 0 = 256 * (L 1).val + 128 * (L 0).val := congrFun (k0_off1_eq L) 0
    apply Fin.ext
    rw [place_val]
    show k0_off1 L 0 + 1 * (k 0).val = _
    omega

/-- The tile's first place, as the word the kernel computes. -/
theorem baseWord_toNat : (baseWord L).toNat = 256 * (L 1).val + 128 * (L 0).val :=
  congrFun (k0_off2_eq L) 0

theorem base_le : (baseWord L).toNat + 128 ≤ 4096 := by
  have h0 : (L 0).val < 2 := (L 0).isLt
  have h1 : (L 1).val < 16 := (L 1).isLt
  rw [baseWord_toNat]; omega

/-- The tile's queries. -/
def mine (fx : FVec F S4096 .f32) : FVec F S128 .f32 := fun k => fx (place L k)

theorem fetched_queries (fx : Buf (Elt F) (xLoc d)) (f0 : Buf (Elt F) ((V d (cV L) (jV L)).loc cc0_scratch0))
    (pay : S128.Idx → Elt F .f32) (hpay : pay = (xRowK L).view.read (Elt F) fx) :
    (qV).view.write (Elt F) f0 pay Finset.univ = mine (F := F) L fx := by
  subst hpay
  rw [show (qV).view.write (Elt F) f0 ((xRowK L).view.read (Elt F) fx) Finset.univ = (xRowK L).view.read (Elt F) fx from
    View.write_whole_univ _ _ _]
  funext k
  exact congrArg fx (xplace L k)

theorem fetched_grid (ft : Buf (Elt F) (tLoc d)) (f1 : Buf (Elt F) ((V d (cV L) (jV L)).loc cc0_scratch1))
    (pay : S10001.Idx → Elt F .f32) (hpay : pay = (sV).view.read (Elt F) ft) :
    (tV).view.write (Elt F) f1 pay Finset.univ = ft := by
  subst hpay
  exact View.write_whole_univ _ _ _

variable [FloatOps F]

/-- A finished list names only samples there are. -/
theorem listed_inb (ft : FVec F S10001 .f32) (fx : FVec F S4096 .f32) (fl : IVec S128 32)
    (h : Listed (F := F) (baseWord L) ft (mine L fx) 128 fl) :
    ∀ k, ((lV).view.read (Elt F) fl k).toNat < S40964096.size gathers_S40964096_S128.axis := by
  intro k
  have hk : (k 0).val < 128 := (k 0).isLt
  have hb := best_le ft (mine L fx k)
  have := base_le L
  show (fl k).toNat < 40964096
  rw [h k hk]
  omega

/-- What the stream brings for a finished list is the samples wanted. -/
theorem gathered (ft : FVec F S10001 .f32) (fx : FVec F S4096 .f32) (fy : FVec F S40964096 .f32) (fl : IVec S128 32)
    (h : Listed (F := F) (baseWord L) ft (mine L fx) 128 fl) (hn : S128.numel = S128.size gathers_S40964096_S128.axis') (k : S128.Idx) :
    SparseCore.gatherPayload (F := F) (e := .f32) gathers_S40964096_S128 ((yAllK).view.read (Elt F) fy)
      (SparseCore.rows ((lV).view.read (Elt F) fl) hn (listed_inb L ft fx fl h)) k = sampled (F := F) fx ft fy (place L k) := by
  have hk : (k 0).val < 128 := (k 0).isLt
  have hb := best_le ft (mine L fx k)
  have hw := base_le L
  have hrow : S128.rowMajor.symm ((k 0).cast hn.symm) = k := by
    rw [Equiv.symm_apply_eq]
    exact Fin.ext (rowMajor_val1 k).symm
  unfold SparseCore.gatherPayload sampled
  refine congrArg fy ?_
  funext a
  match a with
  | 0 =>
    apply Fin.ext
    show 0 + 1 * (fl (S128.rowMajor.symm ((k 0).cast hn.symm))).toNat = (((best ft (mine L fx k)).toNat + 1) * 4096 + (place L k 0).val) % 40964096
    rw [hrow, h k hk, place_val, baseWord_toNat, Nat.mod_eq_of_lt (by rw [baseWord_toNat] at hw; omega)]
    omega

/-- The tile's queries, the grid, and a list whose first `n` entries are right. -/
def Ready (n : ℕ) (fx : FVec F S4096 .f32) (ft : FVec F S10001 .f32) : sProp 𝕄 :=
  iprop(∃ fl : Buf (Elt F) ((lV).view.loc (V d (cV L) (jV L))), ⌜Listed (F := F) (baseWord L) ft (mine L fx) n fl⌝
    ∗ ((qV).view.loc (V d (cV L) (jV L)) ↦{fullShare} mine (F := F) L fx) ∗ ((tV).view.loc (V d (cV L) (jV L)) ↦{fullShare} ft)
    ∗ ((lV).view.loc (V d (cV L) (jV L)) ↦{fullShare} fl))

/-- A chunk takes the tile from `o` right entries to `o + 16`. -/
theorem wp_next (o : ℕ) (ho : ∀ a, (![o] : Fin 1 → Nat) a + S16.size a ≤ S128.size a) (fx : FVec F S4096 .f32) (ft : FVec F S10001 .f32)
    (k : PUnit → Prog (TpuEff nD τ sig (Elt F) Λ₀ (.scVector (cV L) (jV L))) PUnit) (Q : PUnit → sProp 𝕄) :
    (Ready (F := F) d L o fx ft : sProp 𝕄)
      ⊢ iprop((Ready (F := F) d L (o + 16) fx ft -∗ wp frame (wpE (defs₀ (F := F)) 𝒱₀ (V d (cV L) (jV L)) none) Set.univ (k ⟨⟩) Q)
        -∗ wp frame (wpE (defs₀ (F := F)) 𝒱₀ (V d (cV L) (jV L)) none) Set.univ (chunk L qV tV lV (baseWord L) o ho >>= k) Q) := by
  unfold Ready
  iintro ⟨%fl, %hfl, Hq, Ht, Hl⟩ Hk
  iapply (wp_chunk d L (baseWord L) (base_le L) o ho (mine L fx) ft fl hfl k Q) $$ [Hq Ht Hl]
  · isplitl [Hq]; · iexact Hq
    isplitl [Ht]; · iexact Ht
    iexact Hl
  iintro %fl' %hfl' Hq Ht Hl
  iapply Hk
  iexists fl'
  isplitr; · ipureintro; exact hfl'
  isplitl [Hq]; · iexact Hq
  isplitl [Ht]; · iexact Ht
  iexact Hl

/-- What a tile's copy leaves in its block of the result is, there, the samples wanted. -/
theorem copied (fo : Buf (Elt F) (oLoc d)) (f : FVec F S4096 .f32) (pay : S128.Idx → Elt F .f32) (hpay : ∀ k, pay k = f (place L k)) :
    ((oRowK L).view.loc (V d (cV L) (jV L)) ↦[(oRowK L).view.set]{fullShare} (oRowK L).view.writes (Elt F) fo [⟨Rect.whole S128, pay⟩] : sProp 𝕄)
      = (oRowK L).view.loc (V d (cV L) (jV L)) ↦[(oRowK L).view.set]{fullShare} f := by
  refine pointsTo_congr fun i hi => ?_
  obtain ⟨k, -, rfl⟩ := Finset.mem_map.mp hi
  exact (View.read_writes_cons_hit_of_coords (Val := Elt F) (oRowK L).view fo (Rect.whole S128) pay [] k k fun a => by
    show (k a).val = 0 + 1 * (k a).val; omega).trans (hpay k)

set_option maxHeartbeats 4000000 in
/-- One tile's run: its block of the result ends as the samples wanted, its shares of the operands as they were. -/
theorem tile_body (hF : (K (F := F)).Facts) (q : PosShare TreeShare) (fx : Buf (Elt F) (xLoc d)) (ft : Buf (Elt F) (tLoc d)) (fy : Buf (Elt F) (yLoc d))
    (fo : Buf (Elt F) (oLoc d)) (O : CellTallies nD τ sig (HIx 1)) (W : Waits sig (HIx 1)) (hO : ∀ g, O g none = 0) :
    iprop(levAts (K (F := F)).L (K (F := F)).lev ∗ emp
        ∗ ((xLoc d ↦{q} fx) ∗ (tLoc d ↦{q} ft) ∗ (yLoc d ↦{q} fy) ∗ (oLoc d ↦[blkSet (tL L)]{fullShare} fo : sProp 𝕄))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__nn_gather_body (F := F) L xV (Memref.isWhole_whole _) sV (Memref.isWhole_whole _) yV (Memref.isWhole_whole _) oV (Memref.isWhole_whole _)
            qV (Memref.isWhole_whole _) tV (Memref.isWhole_whole _) lV (Memref.isWhole_whole _) gV (Memref.isWhole_whole _) cc0_scratch4 cc0_scoped0 cc0_scoped1 cc0_scoped2)
          fun _ => iprop(((xLoc d ↦{q} fx) ∗ (tLoc d ↦{q} ft) ∗ (yLoc d ↦{q} fy) ∗ (oLoc d ↦[blkSet (tL L)]{fullShare} sampled (F := F) fx ft fy))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]; unfold body
  rw [(K (F := F)).scopedBufs_V hF d (cV L) (jV L), SparseCore.Cfg.scopedSems0_V (Val := Elt F) d (cV L) (jV L), ownSems0_V, ownBufs_V]
  iintro ⟨#Hlv, -, ⟨Hx, Hs, Hy, Ho⟩, ⟨⟨%f0, Hq⟩, ⟨%f1, Ht⟩, ⟨%f2, Hl⟩, ⟨%f3, Hg⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hx' := (Entails.of_eq (pts_xV (F := F) d L _ _).symm) $$ Hx
  ihave Hs' := (Entails.of_eq (pts_sV (F := F) d L _ _).symm) $$ Hs
  ihave Hy' := (Entails.of_eq (pts_yV (F := F) d L _ _).symm) $$ Hy
  ihave Hq' := (show ((V d (cV L) (jV L)).loc cc0_scratch0 ↦{fullShare} f0 : sProp 𝕄) ⊢ (qV).view.loc (V d (cV L) (jV L)) ↦{fullShare} f0 from .rfl) $$ Hq
  ihave Ht' := (show ((V d (cV L) (jV L)).loc cc0_scratch1 ↦{fullShare} f1 : sProp 𝕄) ⊢ (tV).view.loc (V d (cV L) (jV L)) ↦{fullShare} f1 from .rfl) $$ Ht
  ihave Hl' := (show ((V d (cV L) (jV L)).loc cc0_scratch2 ↦{fullShare} f2 : sProp 𝕄) ⊢ (lV).view.loc (V d (cV L) (jV L)) ↦{fullShare} f2 from .rfl) $$ Hl
  ihave Hg' := (show ((V d (cV L) (jV L)).loc cc0_scratch3 ↦{fullShare} f3 : sProp 𝕄) ⊢ (gV).view.loc (V d (cV L) (jV L)) ↦{fullShare} f3 from .rfl) $$ Hg
  obtain ⟨ch, hch⟩ : ∃ ch, ch = chunk (F := F) L qV tV lV (baseWord L) := ⟨_, rfl⟩
  rw [← hch]
  sl_exec
  subst hch
  ihave Hq := (Entails.of_eq (congrArg (fun f => ((qV).view.loc (V d (cV L) (jV L)) ↦{fullShare} f : sProp 𝕄)) (fetched_queries (F := F) d L fx f0 (tile_body.sl.dma0 d L fx) rfl))) $$ Hq'
  ihave Ht := (Entails.of_eq (congrArg (fun f => ((tV).view.loc (V d (cV L) (jV L)) ↦{fullShare} f : sProp 𝕄)) (fetched_grid (F := F) d L ft f1 (tile_body.sl.dma0_1 d ft) rfl))) $$ Ht'
  ihave HR := (show iprop(((qV).view.loc (V d (cV L) (jV L)) ↦{fullShare} mine (F := F) L fx) ∗ ((tV).view.loc (V d (cV L) (jV L)) ↦{fullShare} ft)
      ∗ ((lV).view.loc (V d (cV L) (jV L)) ↦{fullShare} f2)) ⊢ (Ready (F := F) d L 0 fx ft : sProp 𝕄) from by
    unfold Ready
    iintro ⟨Hq, Ht, Hl⟩
    iexists f2
    isplitr; · ipureintro; exact fun _ h => absurd h (Nat.not_lt_zero _)
    isplitl [Hq]; · iexact Hq
    isplitl [Ht]; · iexact Ht
    iexact Hl) $$ [Hq Ht Hl']
  · isplitl [Hq]; · iexact Hq
    isplitl [Ht]; · iexact Ht
    iexact Hl'
  iapply (wp_next d L 0 _ fx ft) $$ HR; iintro HR
  iapply (wp_next d L 16 _ fx ft) $$ HR; iintro HR
  iapply (wp_next d L 32 _ fx ft) $$ HR; iintro HR
  iapply (wp_next d L 48 _ fx ft) $$ HR; iintro HR
  iapply (wp_next d L 64 _ fx ft) $$ HR; iintro HR
  iapply (wp_next d L 80 _ fx ft) $$ HR; iintro HR
  iapply (wp_next d L 96 _ fx ft) $$ HR; iintro HR
  iapply (wp_next d L 112 _ fx ft) $$ HR; iintro HR
  unfold Ready
  icases HR with ⟨%fl, %hfl, Hq, Ht, Hl⟩
  -- the stream over the finished list
  ihave Hys := (pointsTo_split_subset (q := q) (f := fy) (S := Finset.univ) (Finset.subset_univ (yAllK).view.set)).1 $$ Hy'
  icases Hys with ⟨Hys, Hyr⟩
  have hgs : (gV).view.set = Finset.univ := View.set_whole _
  have hls : (lV).view.set = Finset.univ := View.set_whole _
  ihave Hg'' := (Entails.of_eq (show ((gV).view.loc (V d (cV L) (jV L)) ↦{fullShare} f3 : sProp 𝕄)
      = (gV).view.loc (V d (cV L) (jV L)) ↦[(gV).view.set]{fullShare} f3 by rw [hgs])) $$ Hg'
  ihave Hl'' := (Entails.of_eq (show ((lV).view.loc (V d (cV L) (jV L)) ↦{fullShare} fl : sProp 𝕄)
      = (lV).view.loc (V d (cV L) (jV L)) ↦[(lV).view.set]{fullShare} fl by rw [hls])) $$ Hl
  have hN : ∀ h : S40964096.Gathers 0 S128, ∑ j, ((gV).slice (S128.rowRect h.axis' j) (S128.stride_rowRect h.axis' j)).view.dmaCredit
      = (gV).view.dmaCredit := by decide
  iapply (SparseCore.wp_indirectGatherLocal countersEmb 𝒱₀ (V d (cV L) (jV L)) none (hg := gathers_S40964096_S128) (default : HIx 1)
      (gV).view.dmaCredit (hN _) (by decide) (listed_inb L ft fx fl hfl)) $$ [Hys Hg'' Hl'' HsemA]
  · isplitl [Hys]; · iexact Hys
    isplitl [Hg'']; · iexact Hg''
    isplitl [Hl'']; · iexact Hl''
    iexact HsemA
  iintro Hfl
  sl_exec
  iapply (Transfers.wp_waitLocalO countersEmb 𝒱₀ (V d (cV L) (jV L)) none (default : HIx 1) (rfl : (gV).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hg', Hys, Hl'⟩, HsemA, HO⟩
  ihave Hy' := (pointsTo_split_subset (q := q) (f := fy) (S := Finset.univ) (Finset.subset_univ (yAllK).view.set)).2 $$ [Hys Hyr]; · isplitl [Hys] <;> iassumption
  ihave Hg3 := (Entails.of_eq (show ((gV).view.loc (V d (cV L) (jV L)) ↦[(gV).view.set]{fullShare} _ : sProp 𝕄)
      = (gV).view.loc (V d (cV L) (jV L)) ↦{fullShare} _ by rw [hgs])) $$ Hg'
  ihave Hl3 := (Entails.of_eq (show ((lV).view.loc (V d (cV L) (jV L)) ↦[(lV).view.set]{fullShare} _ : sProp 𝕄)
      = (lV).view.loc (V d (cV L) (jV L)) ↦{fullShare} _ by rw [hls])) $$ Hl'
  sl_exec
  sl_step
  isplitl [Hx' Hs' Hy' Ho']
  · isplitl [Hx']; · iapply (Entails.of_eq (pts_xV (F := F) d L _ _)); iexact Hx'
    isplitl [Hs']; · iapply (Entails.of_eq (pts_sV (F := F) d L _ _)); iexact Hs'
    isplitl [Hy']; · iexact Hy'
    iapply (Entails.of_eq (pts_oRowK (F := F) d L _))
    iapply (Entails.of_eq (copied (F := F) d L fo (sampled (F := F) fx ft fy) (tile_body.sl.dma0_2 d L fx ft fy f3 fl hfl) (fun k => by
      refine (congrFun (show tile_body.sl.dma0_2 d L fx ft fy f3 fl hfl = SparseCore.gatherPayload (F := F) (e := .f32) gathers_S40964096_S128
        ((yAllK).view.read (Elt F) fy) (SparseCore.rows ((lV).view.read (Elt F) fl) rfl (listed_inb L ft fx fl hfl)) from by
          unfold tile_body.sl.dma0_2
          exact congrArg ((gV).view.read (Elt F)) (View.write_whole_univ _ _ _)) k).trans ?_
      exact gathered L ft fx fy fl hfl rfl k)))
    iexact Ho'
  isplitl [Hq Ht Hl3 Hg3 Hbufs]
  · isplitl [Hq]; · iexists _; iexact Hq
    isplitl [Ht]; · iexists _; iexact Ht
    isplitl [Hl3]; · iexists _; iexact Hl3
    isplitl [Hg3]; · iexists _; iexact Hg3
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Tile

end
-- ==== Proof.KernelIdealRun.lean ====
/-
  The launch. From any memory the whole program runs to its end on every thread; the result array then holds, as one
  column, the samples that `Lane.best` names, the three argument arrays are as they were, and every semaphore is at zero.
  The two SparseCores and their sixteen tiles share the operands read by everybody as halves of halves of the full
  permission, and own the result's thirty-two blocks one each.
-/
module

public import proofs.«01_k».proof.Proof.KernelIdealTile
public import Idealize.ShloMosaic.Lib.ShareLeaves
public import proofs.«01_k».proof.Defs

@[expose] public section

noncomputable section

namespace Cert.KernelIdeal.Tile

open Cert.KernelIdeal Cert.KernelIdeal.Gen Cert.Proof.Lane
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S4096 EltTy.f32)
local notation "sV" => (Memref.whole Cert.KernelIdeal.main_arg2_scv : Memref Cert.KernelIdeal.sig Kind.scVector Space.hbm Cert.KernelIdeal.S10001 EltTy.f32)
local notation "yV" => (Memref.whole Cert.KernelIdeal.main_v0_scv : Memref Cert.KernelIdeal.sig Kind.scVector Space.hbm Cert.KernelIdeal.S40964096 EltTy.f32)
local notation "oV" => (Memref.whole Cert.KernelIdeal.main_v1_scv : Memref Cert.KernelIdeal.sig Kind.scVector Space.hbm Cert.KernelIdeal.S4096 EltTy.f32)
local notation "qV" => (Memref.whole Cert.KernelIdeal.cc0_scratch0 : Memref Cert.KernelIdeal.sig Kind.scVector Space.vmem Cert.KernelIdeal.S128 EltTy.f32)
local notation "tV" => (Memref.whole Cert.KernelIdeal.cc0_scratch1 : Memref Cert.KernelIdeal.sig Kind.scVector Space.vmem Cert.KernelIdeal.S10001 EltTy.f32)
local notation "lV" => (Memref.whole Cert.KernelIdeal.cc0_scratch2 : Memref Cert.KernelIdeal.sig Kind.scVector Space.vmem Cert.KernelIdeal.S128 EltTy.i32)
local notation "gV" => (Memref.whole Cert.KernelIdeal.cc0_scratch3 : Memref Cert.KernelIdeal.sig Kind.scVector Space.vmem Cert.KernelIdeal.S128 EltTy.f32)

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays' contents through the program -/

variable (m : (ℓ : Loc nD τ sig) → Buf (Elt F) ℓ) (ρ : Dev nD → PrngReg)

abbrev x' : DevRef τ sig := Proc.devRef .tc (main_arg0 : Ref sig .tc)
abbrev a' : DevRef τ sig := Proc.devRef .tc (main_arg1 : Ref sig .tc)
abbrev t' : DevRef τ sig := Proc.devRef .tc (main_arg2 : Ref sig .tc)
abbrev y' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev aLoc (d : Dev nD) : Loc nD τ sig := (SparseCore.T d).loc main_arg1
abbrev rLoc (d : Dev nD) : Loc nD τ sig := (SparseCore.T d).loc main_v2

/-- The samples laid flat; the result as a column. -/
abbrev opFlat : HloOp τ sig (Elt F) := StableHlo.reshape main_arg1 main_v0 (rfl : (.f32 : EltTy) = .f32) shapeCasts_S10001x4096_S40964096
abbrev opCol : HloOp τ sig (Elt F) := StableHlo.reshape main_v1 main_v2 (rfl : (.f32 : EltTy) = .f32) shapeCasts_S4096_S4096x1

/-- The samples laid flat, as they are when the tiles start. -/
def flat (d : Dev nD) : FVec F S40964096 .f32 := shapeCast S40964096 (m (aLoc d)) shapeCasts_S10001x4096_S40964096

variable [FloatOps F]

/-- What the tiles leave in the result. -/
def out (d : Dev nD) : FVec F S4096 .f32 := sampled (F := F) (m (xLoc d)) (m (tLoc d)) (flat m d)
/-- The program's result: that, as a column. -/
def column (d : Dev nD) : FVec F S4096x1 .f32 := shapeCast S4096x1 (out m d) shapeCasts_S4096_S4096x1

/-! ## What the handshakes carry -/

/-- Shares of the three operands, and part `B` of the result at contents `f`. -/
abbrev Bundle (d : Dev nD) (q : PosShare TreeShare) (B : Finset S4096.Idx) (f : Buf (Elt F) (oLoc d)) : sProp 𝕄 :=
  iprop((xLoc d ↦{q} m (xLoc d)) ∗ (tLoc d ↦{q} m (tLoc d)) ∗ (yLoc d ↦{q} (flat m d : Buf (Elt F) (yLoc d))) ∗ (oLoc d ↦[B]{fullShare} f))

/-- A SparseCore's half, a tile's sixteenth of it. -/
abbrev cq (c : Fin 2) : PosShare TreeShare := leaf 1 fullShare c
abbrev tq (c : Fin 2) (s : Fin 16) : PosShare TreeShare := leaf 4 (cq c) s
/-- A SparseCore's part of the result: its sixteen tiles' blocks. -/
abbrev coreSet (c : Fin 2) : Finset S4096.Idx := (Finset.univ : Finset (Fin 16)).biUnion fun s => blkSet (tix c s)

omit [FloatOps F] in
theorem blkSet_eq (t : Fin 32) : blkSet t = (blk t).set := by
  show ((View.whole (main_v1_scv : Ref sig .scVector)).slice (blk t)).set = _
  rw [View.set_slice]; exact Finset.map_refl

omit [FloatOps F] in
theorem blk_disjoint {t u : Fin 32} (h : t ≠ u) : Disjoint (blkSet t) (blkSet u) := by
  rw [blkSet_eq, blkSet_eq]; exact Rect.part_disjoint odiv h

omit [FloatOps F] in
theorem tix_inj {c c' : Fin 2} {s s' : Fin 16} (h : tix c s = tix c' s') : c = c' ∧ s = s' := by
  have h' : 2 * s.val + c.val = 2 * s'.val + c'.val := congrArg Fin.val h
  have hc := c.isLt; have hc' := c'.isLt
  exact ⟨Fin.ext (by omega), Fin.ext (by omega)⟩

omit [FloatOps F] in
theorem tile_disjoint (c : Fin 2) : ∀ s ∈ (Finset.univ : Finset (Fin 16)), ∀ s' ∈ (Finset.univ : Finset (Fin 16)), s ≠ s' →
    Disjoint (blkSet (tix c s)) (blkSet (tix c s')) :=
  fun _ _ _ _ h => blk_disjoint fun e => h (tix_inj e).2

omit [FloatOps F] in
theorem core_disjoint : ∀ c ∈ (Finset.univ : Finset (Fin 2)), ∀ c' ∈ (Finset.univ : Finset (Fin 2)), c ≠ c' → Disjoint (coreSet c) (coreSet c') :=
  fun _ _ _ _ h => (Finset.disjoint_biUnion_left _ _ _).mpr fun _ _ => (Finset.disjoint_biUnion_right _ _ _).mpr fun _ _ =>
    blk_disjoint fun e => h (tix_inj e).1

omit [FloatOps F] in
theorem core_cover : (Finset.univ : Finset (Fin 2)).biUnion coreSet = Finset.univ := by
  refine Finset.eq_univ_of_forall fun i => ?_
  have hi : i ∈ (Finset.univ : Finset (Fin 32)).biUnion fun t => (blk t).set := by rw [Rect.biUnion_part odiv]; exact Finset.mem_univ i
  obtain ⟨t, -, ht⟩ := Finset.mem_biUnion.mp hi
  refine Finset.mem_biUnion.mpr ⟨⟨t.val % 2, by omega⟩, Finset.mem_univ _, Finset.mem_biUnion.mpr ⟨⟨t.val / 2, by have := t.isLt; omega⟩, Finset.mem_univ _, ?_⟩⟩
  rw [show tix ⟨t.val % 2, by omega⟩ ⟨t.val / 2, by have := t.isLt; omega⟩ = t from Fin.ext (by show 2 * (t.val / 2) + t.val % 2 = t.val; omega), blkSet_eq]
  exact ht

/-- A bundle is the bundles of its share's leaves and its part's parts. -/
theorem bundle_split (d : Dev nD) (n : ℕ) (q : PosShare TreeShare) (B : Fin (2 ^ n) → Finset S4096.Idx)
    (hB : ∀ s ∈ (Finset.univ : Finset (Fin (2 ^ n))), ∀ s' ∈ (Finset.univ : Finset (Fin (2 ^ n))), s ≠ s' → Disjoint (B s) (B s'))
    (f : Buf (Elt F) (oLoc d)) :
    (Bundle m d q (Finset.univ.biUnion B) f : sProp 𝕄) = bigSep Finset.univ fun i : Fin (2 ^ n) => Bundle m d (leaf n q i) (B i) f := by
  have h : ∀ fy : Buf (Elt F) (yLoc d),
      (iprop((xLoc d ↦{q} m (xLoc d)) ∗ (tLoc d ↦{q} m (tLoc d)) ∗ (yLoc d ↦{q} fy) ∗ (oLoc d ↦[Finset.univ.biUnion B]{fullShare} f)) : sProp 𝕄)
        = bigSep Finset.univ fun i : Fin (2 ^ n) => iprop((xLoc d ↦{leaf n q i} m (xLoc d)) ∗ (tLoc d ↦{leaf n q i} m (tLoc d)) ∗ (yLoc d ↦{leaf n q i} fy)
            ∗ (oLoc d ↦[B i]{fullShare} f)) := by
    intro fy
    rw [pointsTo_leaves Finset.univ (m (xLoc d)) n q, pointsTo_leaves Finset.univ (m (tLoc d)) n q, pointsTo_leaves Finset.univ fy n q,
      pointsTo_biUnion Finset.univ (ℓ := oLoc d) B hB, bigSep_sep', bigSep_sep', bigSep_sep']
  exact h (flat m d)

/-- The call hands each SparseCore its half, each task its sixteenth and its block; the blocks come back filled. -/
def P : (K (F := F)).Pay (nD := nD) (Val := Elt F) (Name := ℕ) (U := UU) where
  st := fun q d c => match q with | 0 => Bundle m d (cq (Fin.cast nCore_zero c)) (coreSet (Fin.cast nCore_zero c)) (m (oLoc d))
  dn := fun q d c => match q with | 0 => Bundle m d (cq (Fin.cast nCore_zero c)) (coreSet (Fin.cast nCore_zero c)) (out m d)
  go := fun q d c i => match q with
    | 0 => Bundle m d (tq (Fin.cast nCore_zero c) (Fin.cast nSub_zero i)) (blkSet (tix (Fin.cast nCore_zero c) (Fin.cast nSub_zero i))) (m (oLoc d))
  td := fun q d c i => match q with
    | 0 => Bundle m d (tq (Fin.cast nCore_zero c) (Fin.cast nSub_zero i)) (blkSet (tix (Fin.cast nCore_zero c) (Fin.cast nSub_zero i))) (out m d)
  x := fun _ _ => iprop(emp)

instance bundle_storable (d : Dev nD) (q : PosShare TreeShare) (B : Finset S4096.Idx) (f : Buf (Elt F) (oLoc d)) :
    BI.Storable (upEmb : UEmb _ 𝕄) (Bundle m d q B f) := inferInstance

instance P_storable : (P (F := F) m).IsStorable where
  st q d c := match q with | 0 => bundle_storable m d _ _ _
  dn q d c := match q with | 0 => bundle_storable m d _ _ _
  go q d c i := match q with | 0 => bundle_storable m d _ _ _
  td q d c i := match q with | 0 => bundle_storable m d _ _ _

/-! ## Each tile's part -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__nn_gather_body (coordsV c s)
          xV (Memref.isWhole_whole _) sV (Memref.isWhole_whole _) yV (Memref.isWhole_whole _) oV (Memref.isWhole_whole _)
          qV (Memref.isWhole_whole _) tV (Memref.isWhole_whole _) lV (Memref.isWhole_whole _) gV (Memref.isWhole_whole _)
          cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tq (Fin.cast nCore_zero c) (Fin.cast nSub_zero i)) (m (xLoc d)) (m (tLoc d)) (flat m d) (m (oLoc d))
    O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's bundle is its sixteen tiles'. -/
theorem core_split (d : Dev nD) (c : Fin 2) (f : Buf (Elt F) (oLoc d)) :
    (Bundle m d (cq c) (coreSet c) f : sProp 𝕄) = bigSep Finset.univ fun i : Fin 16 => Bundle m d (tq c i) (blkSet (tix c i)) f :=
  bundle_split m d 4 (cq c) (fun s => blkSet (tix c s)) (tile_disjoint c) f

/-- Everything is the two SparseCores'. -/
theorem call_split (d : Dev nD) (f : Buf (Elt F) (oLoc d)) :
    (Bundle m d fullShare Finset.univ f : sProp 𝕄) = bigSep Finset.univ fun c : Fin 2 => Bundle m d (cq c) (coreSet c) f := by
  rw [← core_cover]
  exact bundle_split m d 1 fullShare coreSet core_disjoint f

theorem vecSplit : (K (F := F)).VecSplit' (P m) 0 := by
  intro d c
  show (Bundle m d (cq (Fin.cast nCore_zero c)) (coreSet (Fin.cast nCore_zero c)) (m (oLoc d)) : sProp 𝕄) ⊢ |={Set.univ}=> iprop(
      (bigSep Finset.univ fun i : Fin ((K (F := F)).nSub 0) =>
        Bundle m d (tq (Fin.cast nCore_zero c) (Fin.cast nSub_zero i)) (blkSet (tix (Fin.cast nCore_zero c) (Fin.cast nSub_zero i))) (m (oLoc d)))
      ∗ ((bigSep Finset.univ fun i : Fin ((K (F := F)).nSub 0) =>
        Bundle m d (tq (Fin.cast nCore_zero c) (Fin.cast nSub_zero i)) (blkSet (tix (Fin.cast nCore_zero c) (Fin.cast nSub_zero i))) (out m d))
          -∗ Bundle m d (cq (Fin.cast nCore_zero c)) (coreSet (Fin.cast nCore_zero c)) (out m d)))
  rw [bigSep_tasks (F := F) (fun i => Bundle m d (tq (Fin.cast nCore_zero c) i) (blkSet (tix (Fin.cast nCore_zero c) i)) (m (oLoc d))),
    bigSep_tasks (F := F) (fun i => Bundle m d (tq (Fin.cast nCore_zero c) i) (blkSet (tix (Fin.cast nCore_zero c) i)) (out m d)),
    core_split m d _ (m (oLoc d)), core_split m d _ (out m d)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The six arrays, all the TensorCore's own. -/
abbrev S6 : Finset (DevRef τ sig) := {x', a', t', y', o', r'}

omit [FloatOps F] in
theorem held_S6 (d : Dev nD) (W : Valuation τ sig (Elt F)) :
    (held (T d) S6 W : sProp 𝕄)
      = iprop((xLoc d ↦{fullShare} W x') ∗ (aLoc d ↦{fullShare} W a') ∗ (tLoc d ↦{fullShare} W t') ∗ (yLoc d ↦{fullShare} W y')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (tLoc d ↦{fullShare} W main_arg2) ∗ (yLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- At the launch; before the call; after it. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) o' (out m d)

theorem unscoped_held (d : Dev nD) : (unscopedBufs d (fun b => m ((SparseCore.T d).loc b)) : sProp 𝕄) = held (T d) S6 (V0 m d) := by
  rw [unscopedBufs_eq, held_S6]; rfl

omit [FloatOps F] in
theorem V1_ne (d : Dev nD) {b : DevRef τ sig} (h : b ≠ y') : V1 m d b = m (d, b) :=
  (opFlat (F := F)).result_of_not_mem _ (show b ∉ ({y'} : Finset (DevRef τ sig)) by simpa using h)
omit [FloatOps F] in
theorem V1_y (d : Dev nD) : V1 m d y' = flat m d := StableHlo.reshape_result _ _ _ _ _ _ _

theorem V2_o (d : Dev nD) : V2 m d o' = out m d := Function.update_self _ _ _
theorem V2_ne (d : Dev nD) {b : DevRef τ sig} (h : b ≠ o') : V2 m d b = V1 m d b := Function.update_of_ne h _ _

theorem held_V1 (d : Dev nD) :
    (held (T d) S6 ((opFlat (F := F)).result (V0 m d)) : sProp 𝕄)
      = iprop((xLoc d ↦{fullShare} m (xLoc d)) ∗ (aLoc d ↦{fullShare} m (aLoc d)) ∗ (tLoc d ↦{fullShare} m (tLoc d))
          ∗ (yLoc d ↦{fullShare} (flat m d : Buf (Elt F) (yLoc d))) ∗ (oLoc d ↦{fullShare} m (oLoc d)) ∗ rLoc d ↦{fullShare} m (rLoc d)) := by
  show held (SparseCore.T d) S6 (V1 m d) = _
  rw [held_S6, V1_y, V1_ne m d (show x' ≠ y' by decide), V1_ne m d (show a' ≠ y' by decide), V1_ne m d (show t' ≠ y' by decide),
    V1_ne m d (show o' ≠ y' by decide), V1_ne m d (show r' ≠ y' by decide)]

theorem held_V2 (d : Dev nD) :
    (held (T d) S6 (V2 m d) : sProp 𝕄)
      = iprop((xLoc d ↦{fullShare} m (xLoc d)) ∗ (aLoc d ↦{fullShare} m (aLoc d)) ∗ (tLoc d ↦{fullShare} m (tLoc d))
          ∗ (yLoc d ↦{fullShare} (flat m d : Buf (Elt F) (yLoc d))) ∗ (oLoc d ↦{fullShare} (out m d : Buf (Elt F) (oLoc d))) ∗ rLoc d ↦{fullShare} m (rLoc d)) := by
  rw [held_S6, V2_o, V2_ne m d (show x' ≠ o' by decide), V2_ne m d (show a' ≠ o' by decide), V2_ne m d (show t' ≠ o' by decide),
    V2_ne m d (show y' ≠ o' by decide), V2_ne m d (show r' ≠ o' by decide), V1_y, V1_ne m d (show x' ≠ y' by decide), V1_ne m d (show a' ≠ y' by decide),
    V1_ne m d (show t' ≠ y' by decide), V1_ne m d (show r' ≠ y' by decide)]

theorem V3_ne (d : Dev nD) {b : DevRef τ sig} (h : b ≠ r') : (opCol (F := F)).result (V2 m d) b = V2 m d b :=
  (opCol (F := F)).result_of_not_mem _ (show b ∉ ({r'} : Finset (DevRef τ sig)) by simpa using h)
theorem V3_r (d : Dev nD) : (opCol (F := F)).result (V2 m d) r' = column m d :=
  (StableHlo.reshape_result _ _ _ _ _ _ _).trans (by rw [V2_o]; rfl)

theorem held_V3 (d : Dev nD) :
    (held (T d) S6 ((opCol (F := F)).result (V2 m d)) : sProp 𝕄)
      = iprop((xLoc d ↦{fullShare} m (xLoc d)) ∗ (aLoc d ↦{fullShare} m (aLoc d)) ∗ (tLoc d ↦{fullShare} m (tLoc d))
          ∗ (yLoc d ↦{fullShare} (opCol (F := F)).result (V2 m d) y') ∗ (oLoc d ↦{fullShare} (opCol (F := F)).result (V2 m d) o')
          ∗ rLoc d ↦{fullShare} (column m d : Buf (Elt F) (rLoc d))) := by
  rw [held_S6, V3_r, V3_ne m d (show x' ≠ r' by decide), V3_ne m d (show a' ≠ r' by decide), V3_ne m d (show t' ≠ r' by decide),
    V2_ne m d (show x' ≠ o' by decide), V2_ne m d (show a' ≠ o' by decide), V2_ne m d (show t' ≠ o' by decide),
    V1_ne m d (show x' ≠ y' by decide), V1_ne m d (show a' ≠ y' by decide), V1_ne m d (show t' ≠ y' by decide)]

theorem st0_eq (d : Dev nD) : (bigSep Finset.univ fun c : Fin ((K (F := F)).nCore 0) => (P m).st 0 d c) = Bundle m d fullShare Finset.univ (m (oLoc d)) :=
  (bigSep_cores (F := F) (fun c => Bundle m d (cq c) (coreSet c) (m (oLoc d)))).trans (call_split m d _).symm
theorem dn0_eq (d : Dev nD) : (bigSep Finset.univ fun c : Fin ((K (F := F)).nCore 0) => (P m).dn 0 d c) = Bundle m d fullShare Finset.univ (out m d) :=
  (bigSep_cores (F := F) (fun c => Bundle m d (cq c) (coreSet c) (out m d))).trans (call_split m d _).symm

theorem hFlat : (opFlat (F := F)).bufs ⊆ S6 := show ({a', y'} : Finset (DevRef τ sig)) ⊆ S6 by decide
theorem hCol : (opCol (F := F)).bufs ⊆ S6 := show ({o', r'} : Finset (DevRef τ sig)) ⊆ S6 by decide

/-- What @main leaves: the three arguments as they were, the result column. -/
abbrev FIN (d : Dev nD) : sProp 𝕄 :=
  iprop((xLoc d ↦{fullShare} m (xLoc d)) ∗ (aLoc d ↦{fullShare} m (aLoc d)) ∗ (tLoc d ↦{fullShare} m (tLoc d))
    ∗ rLoc d ↦{fullShare} (column m d : Buf (Elt F) (rLoc d)))

/-- @main: the samples laid flat, the call, the result as a column. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S6) hFlat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Ha, Ht, Hy, Ho, Hr⟩
  iapply ((K (F := F)).wp_run (D (F := F)) 𝒱 (EH := EH) (P := P m) κ d 0) $$ [Hst Hx Ha Ht Hy Ho Hr Hb Hts]
  isplitr; · iexact Hctx
  isplitl [Hst]; · iexact Hst
  isplitl [Hx Ht Hy Ho]
  · rw [st0_eq]
    isplitl [Hx]; · iexact Hx
    isplitl [Ht]; · iexact Ht
    isplitl [Hy]; · iexact Hy
    iexact Ho
  iintro ⟨Hst, Hdn⟩
  ihave Hdn' := (Entails.of_eq (dn0_eq m d)) $$ Hdn
  icases Hdn' with ⟨Hx, Ht, Hy, Ho⟩
  iapply (wp_hlo_within 𝒱 (SparseCore.T d) none Set.univ (op := opCol) (S := S6) hCol (V := V2 m d)) $$ [Hb Hx Ha Ht Hy Ho Hr]
  · isplitl [Hb]; · iexact Hb
    rw [held_V2]
    isplitl [Hx]; · iexact Hx
    isplitl [Ha]; · iexact Ha
    isplitl [Ht]; · iexact Ht
    isplitl [Hy]; · iexact Hy
    isplitl [Ho]; · iexact Ho
    iexact Hr
  iintro ⟨Hb, Hheld⟩
  ihave Hh := (Entails.of_eq (held_V3 (F := F) m d)) $$ Hheld
  icases Hh with ⟨Hx, Ha, Ht, -, -, Hr⟩
  rw [wp_ret]; imodintro; imodintro
  isplitl [Hst]; · iexact Hst
  isplitr [Hb Hts]
  · isplitl [Hx]; · iexact Hx
    isplitl [Ha]; · iexact Ha
    isplitl [Ht]; · iexact Ht
    iexact Hr
  isplitl [Hb] <;> iassumption

/-- What is read of a final state. -/
def fq (d : Dev nD) (s' : Phys nD τ sig (Elt F)) : Prop :=
  s'.mem.mem (rLoc d) = (column m d : Buf (Elt F) (rLoc d)) ∧ s'.mem.mem (xLoc d) = m (xLoc d) ∧ s'.mem.mem (aLoc d) = m (aLoc d) ∧ s'.mem.mem (tLoc d) = m (tLoc d)

omit [FloatOps F] in
/-- A whole array held is an array known. -/
theorem known (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hx, Ha, Ht, Hr⟩, HSI⟩
  ihave H := (known s' (xLoc d) (m (xLoc d))) $$ [Hx HSI]
  · isplitl [Hx] <;> iassumption
  icases H with ⟨%hx, HSI⟩
  ihave H := (known s' (aLoc d) (m (aLoc d))) $$ [Ha HSI]
  · isplitl [Ha] <;> iassumption
  icases H with ⟨%ha, HSI⟩
  ihave H := (known s' (tLoc d) (m (tLoc d))) $$ [Ht HSI]
  · isplitl [Ht] <;> iassumption
  icases H with ⟨%ht, HSI⟩
  ihave H := (known s' (rLoc d) (column m d)) $$ [Hr HSI]
  · isplitl [Hr] <;> iassumption
  icases H with ⟨%hr, HSI⟩
  ipureintro; exact ⟨hr, hx, ha, ht⟩

/-! ## The program's run -/

def QC : PUnit × MemSt nD τ sig (Elt F) → Prop := fun r =>
  (∀ c : Dev nD, r.2.mem (rLoc c) = (column m c : Buf (Elt F) (rLoc c)) ∧ r.2.mem (xLoc c) = m (xLoc c) ∧ r.2.mem (aLoc c) = m (aLoc c) ∧ r.2.mem (tLoc c) = m (tLoc c))
    ∧ r.2.sem = fun _ => 0

/-- The program runs to its end: the result column, the arguments as they were, the semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.RefRun.lean ====
/-
  The reference's run. From any memory it ends on every device with each array at the result of its operations, taken in
  order, over the launch's contents; the three arguments are no operation's result, so they end as they were.
-/
module

public import proofs.«01_k».proof.Defs
public import Idealize.ShloMosaic.Lib.StableHlo.Run
public import Idealize.ShloMosaic.Lib.StableHlo.RunHlo
public import Idealize.ShloMosaic.Lib.Claim
public import proofs.«01_k».proof.Proof.Gen.ReferenceIdeal

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- The reference's operations in order, those of its arg-min in their place. -/
abbrev ops : List (HloOp τ sig (Elt F)) :=
  [ unary main_arg2 main_v0 ((extractStridedSlice S9999 ![1] · slices_S10001_S9999_1) : (⟨S10001, .f32⟩ : BufTy).Contents (Elt F) → (⟨S9999, .f32⟩ : BufTy).Contents (Elt F)),
    reshape main_arg0 main_v1 (rfl : (.f32 : EltTy) = .f32) shapeCasts_S4096_S4096x1,
    unary main_v0 main_v2 (broadcastInDim S1x9999 ![1] bcast_S9999_S1x9999_1 : (⟨S9999, .f32⟩ : BufTy).Contents (Elt F) → (⟨S1x9999, .f32⟩ : BufTy).Contents (Elt F)),
    unary main_v1 main_v3 (broadcastInDim S4096x9999 ![0, 1] bcast_S4096x1_S4096x9999_0_1 : (⟨S4096x1, .f32⟩ : BufTy).Contents (Elt F) → (⟨S4096x9999, .f32⟩ : BufTy).Contents (Elt F)),
    unary main_v2 main_v4 (broadcastInDim S4096x9999 ![0, 1] bcast_S1x9999_S4096x9999_0_1 : (⟨S1x9999, .f32⟩ : BufTy).Contents (Elt F) → (⟨S4096x9999, .f32⟩ : BufTy).Contents (Elt F)),
    binary main_v3 main_v4 main_v5 (subf : (⟨S4096x9999, .f32⟩ : BufTy).Contents (Elt F) → (⟨S4096x9999, .f32⟩ : BufTy).Contents (Elt F) → (⟨S4096x9999, .f32⟩ : BufTy).Contents (Elt F)),
    unary main_v5 main_v6 (Host.absf : (⟨S4096x9999, .f32⟩ : BufTy).Contents (Elt F) → (⟨S4096x9999, .f32⟩ : BufTy).Contents (Elt F)),
    TRef.nullary main_call0.v0 (iotaInDim S4096x9999 32 1),
    TRef.nullary main_call0.cst (constant S_ .f32 0x7F800000#32),
    TRef.nullary main_call0.c (constantI S_ 32 0#32),
    TRef.quaternary (.of main_v6 : TRef sig ⟨S4096x9999, .f32⟩) main_call0.v0 main_call0.cst main_call0.c main_call0.v1_0 (fun x y u v j => (Host.argReduce reducer_argmin_f32_i32 x y u v reducesTo_S4096x9999_S4096_d1 h_S_ j).1),
    TRef.quaternary (.of main_v6 : TRef sig ⟨S4096x9999, .f32⟩) main_call0.v0 main_call0.cst main_call0.c main_call0.v1_1 (fun x y u v j => (Host.argReduce reducer_argmin_f32_i32 x y u v reducesTo_S4096x9999_S4096_d1 h_S_ j).2),
    unary main_arg1 main_v8 ((extractStridedSlice S9999x4096 ![1, 0] · slices_S10001x4096_S9999x4096_1_0) : (⟨S10001x4096, .f32⟩ : BufTy).Contents (Elt F) → (⟨S9999x4096, .f32⟩ : BufTy).Contents (Elt F)),
    nullary main_v9 (iotaInDim S4096 32 0),
    nullary main_c (constantI S_ 32 0#32),
    unary main_c main_v10 (broadcastInDim S4096 ![] bcast_S_S4096 : (⟨S_, .i32⟩ : BufTy).Contents (Elt F) → (⟨S4096, .i32⟩ : BufTy).Contents (Elt F)),
    binary main_v7 main_v10 main_v11 (cmpi .slt : (⟨S4096, .i32⟩ : BufTy).Contents (Elt F) → (⟨S4096, .i32⟩ : BufTy).Contents (Elt F) → (⟨S4096, .i1⟩ : BufTy).Contents (Elt F)),
    nullary main_c_0 (constantI S_ 32 9999#32),
    unary main_c_0 main_v12 (broadcastInDim S4096 ![] bcast_S_S4096 : (⟨S_, .i32⟩ : BufTy).Contents (Elt F) → (⟨S4096, .i32⟩ : BufTy).Contents (Elt F)),
    binary main_v7 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_v7 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v15 (broadcastInDim S4096 ![] bcast_S_S4096 : (⟨S_, .i32⟩ : BufTy).Contents (Elt F) → (⟨S4096, .i32⟩ : BufTy).Contents (Elt F)),
    binary main_v9 main_v15 main_v16 (cmpi .slt : (⟨S4096, .i32⟩ : BufTy).Contents (Elt F) → (⟨S4096, .i32⟩ : BufTy).Contents (Elt F) → (⟨S4096, .i1⟩ : BufTy).Contents (Elt F)),
    nullary main_c_2 (constantI S_ 32 4096#32),
    unary main_c_2 main_v17 (broadcastInDim S4096 ![] bcast_S_S4096 : (⟨S_, .i32⟩ : BufTy).Contents (Elt F) → (⟨S4096, .i32⟩ : BufTy).Contents (Elt F)),
    binary main_v9 main_v17 main_v18 (addi : (⟨S4096, .i32⟩ : BufTy).Contents (Elt F) → (⟨S4096, .i32⟩ : BufTy).Contents (Elt F) → (⟨S4096, .i32⟩ : BufTy).Contents (Elt F)),
    ternary main_v16 main_v18 main_v9 main_v19 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v20 (broadcastInDim S4096x1 ![0] bcast_S4096_S4096x1_0 : (⟨S4096, .i32⟩ : BufTy).Contents (Elt F) → (⟨S4096x1, .i32⟩ : BufTy).Contents (Elt F)),
    unary main_v19 main_v21 (broadcastInDim S4096x1 ![0] bcast_S4096_S4096x1_0 : (⟨S4096, .i32⟩ : BufTy).Contents (Elt F) → (⟨S4096x1, .i32⟩ : BufTy).Contents (Elt F)),
    binary main_v20 main_v21 main_v22 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v8 main_v22 main_v23 ((fun x i => Host.gather gather_S9999x4096_S4096x2_S4096_n_01_n_n_01_1_11 x i) : (⟨S9999x4096, .f32⟩ : BufTy).Contents (Elt F) → (⟨S4096x2, .i32⟩ : BufTy).Contents (Elt F) → (⟨S4096, .f32⟩ : BufTy).Contents (Elt F)),
    reshape main_v23 main_v24 (rfl : (.f32 : EltTy) = .f32) shapeCasts_S4096_S4096x1 ]

theorem main_eq (c : Dev nD) : main (F := F) c = seq ops := by
  simp only [main, fn_argmin.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., reshape_bufs_sub ..⟩

/-- The reference runs to its end with every array at its operations' results. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one expression of the arguments -/

/-- How far each query is from each inner grid point. -/
def gaps (x : FVec F S4096 .f32) (t : FVec F S10001 .f32) : FVec F S4096x9999 .f32 :=
  Host.absf (subf (broadcastInDim S4096x9999 ![0, 1] bcast_S4096x1_S4096x9999_0_1 (shapeCast S4096x1 x shapeCasts_S4096_S4096x1))
    (broadcastInDim S4096x9999 ![0, 1] bcast_S1x9999_S4096x9999_0_1
      (broadcastInDim S1x9999 ![1] bcast_S9999_S1x9999_1 (extractStridedSlice S9999 ![1] t slices_S10001_S9999_1))))

/-- Each query's arg-min. -/
def nearest (x : FVec F S4096 .f32) (t : FVec F S10001 .f32) : IVec S4096 32 := fun j =>
  (Host.argReduce reducer_argmin_f32_i32 (gaps x t) (iotaInDim S4096x9999 32 1) (constant S_ .f32 0x7F800000#32) (constantI S_ 32 0#32)
    reducesTo_S4096x9999_S4096_d1 h_S_ j).2

/-- An index below zero counted from the end of an axis of extent `n`. -/
def wrap (n : BitVec 32) (v : IVec S4096 32) : IVec S4096 32 :=
  select (cmpi .slt v (broadcastInDim S4096 ![] bcast_S_S4096 (constantI S_ 32 0#32))) (addi v (broadcastInDim S4096 ![] bcast_S_S4096 (constantI S_ 32 n))) v

/-- The row and the column read for each query. -/
def places (x : FVec F S4096 .f32) (t : FVec F S10001 .f32) : IVec S4096x2 32 :=
  concatenate S4096x2 1 [⟨S4096x1, broadcastInDim S4096x1 ![0] bcast_S4096_S4096x1_0 (wrap 9999#32 (nearest x t))⟩,
    ⟨S4096x1, broadcastInDim S4096x1 ![0] bcast_S4096_S4096x1_0 (wrap 4096#32 (iotaInDim S4096 32 0))⟩] concatenates_S4096x1_S4096x1_S4096x2_d1

/-- What the reference returns. -/
def answer (x : FVec F S4096 .f32) (y : FVec F S10001x4096 .f32) (t : FVec F S10001 .f32) : FVec F S4096x1 .f32 :=
  shapeCast S4096x1 (Host.gather gather_S9999x4096_S4096x2_S4096_n_01_n_n_01_1_11 (extractStridedSlice S9999x4096 ![1, 0] y slices_S10001x4096_S9999x4096_1_0)
    (places x t)) shapeCasts_S4096_S4096x1

theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results

theorem out_eq (V : Valuation τ sig (Elt F)) :
    after ops V (main_v24 : DevRef τ sig) = answer (V (main_arg0 : DevRef τ sig)) (V (main_arg1 : DevRef τ sig)) (V (main_arg2 : DevRef τ sig)) := by
  after_results
  rfl

end Cert.Proof.Reference

end
-- ==== Proof.Nearest.lean ====
/-
  The mathematics of the kernel's choice, over the real numbers. A grid whose point `j` lies less than half a hundredth
  from `(j + 1) / 100` is increasing, and the grid point nearest to a number `a` is then one of the three whose indices
  end at the whole part of `100 a + 1/2`, each brought into 0 … 9998. Choosing among the three, a later one only when it
  is strictly nearer, gives the first of the nearest grid points — also where the number lies left of the grid, where
  the first two of the three may be any indices at all.
-/
module

public import proofs.«01_k».proof.Proof.Lane
public import Idealize.ShloMosaic.PureOps.Ideal
public import Mathlib.Tactic.Linarith

@[expose] public section

namespace Cert.Proof.Nearest

open Cert.Proof.Lane
open Idealize.ShloMosaic

/-- `b` is the first of the indices 0 … 9998 at which `d` is least. -/
def IsFirstMin (d : ℕ → ℝ) (b : ℕ) : Prop := b ≤ 9998 ∧ ∀ j ≤ 9998, d b ≤ d j ∧ (d j = d b → b ≤ j)

/-- There is at most one such index. -/
theorem IsFirstMin.unique {d : ℕ → ℝ} {b b' : ℕ} (h : IsFirstMin d b) (h' : IsFirstMin d b') : b = b' := by
  have h1 := h.2 b' h'.1
  have h2 := h'.2 b h.1
  have he : d b = d b' := le_antisymm h1.1 h2.1
  exact le_antisymm (h1.2 he.symm) (h2.2 he)

/-- Of three indices, a later one taken only when it is strictly nearer. -/
noncomputable def pick (d : ℕ → ℝ) (c0 c1 c2 : ℕ) : ℕ :=
  if d c2 < (if d c1 < d c0 then d c1 else d c0) then c2 else if d c1 < d c0 then c1 else c0

/-- What is picked is one of the three, and none of the three is nearer. -/
theorem pick_spec (d : ℕ → ℝ) (c0 c1 c2 : ℕ) :
    (pick d c0 c1 c2 = c0 ∨ pick d c0 c1 c2 = c1 ∨ pick d c0 c1 c2 = c2)
      ∧ d (pick d c0 c1 c2) ≤ d c0 ∧ d (pick d c0 c1 c2) ≤ d c1 ∧ d (pick d c0 c1 c2) ≤ d c2 := by
  unfold pick
  by_cases h1 : d c1 < d c0
  · simp only [if_pos h1]
    by_cases h2 : d c2 < d c1
    · simp only [if_pos h2]; exact ⟨Or.inr (Or.inr trivial), by linarith, by linarith, le_refl _⟩
    · simp only [if_neg h2]; exact ⟨Or.inr (Or.inl trivial), by linarith, le_refl _, by linarith⟩
  · simp only [if_neg h1]
    by_cases h2 : d c2 < d c0
    · simp only [if_pos h2]; exact ⟨Or.inr (Or.inr trivial), by linarith, by linarith, le_refl _⟩
    · simp only [if_neg h2]; exact ⟨Or.inl trivial, le_refl _, by linarith, by linarith⟩

/-- Of three indices in order, it is the first of the nearest. -/
theorem pick_first (d : ℕ → ℝ) {c0 c1 c2 : ℕ} (h01 : c0 ≤ c1) (h12 : c1 ≤ c2) :
    (d c0 = d (pick d c0 c1 c2) → pick d c0 c1 c2 ≤ c0) ∧ (d c1 = d (pick d c0 c1 c2) → pick d c0 c1 c2 ≤ c1)
      ∧ (d c2 = d (pick d c0 c1 c2) → pick d c0 c1 c2 ≤ c2) := by
  unfold pick
  by_cases h1 : d c1 < d c0
  · simp only [if_pos h1]
    by_cases h2 : d c2 < d c1
    · simp only [if_pos h2]; exact ⟨fun h => by linarith, fun h => by linarith, fun _ => le_refl _⟩
    · simp only [if_neg h2]; exact ⟨fun h => by linarith, fun _ => le_refl _, fun _ => h12⟩
  · simp only [if_neg h1]
    by_cases h2 : d c2 < d c0
    · simp only [if_pos h2]; exact ⟨fun h => by linarith, fun h => by linarith, fun _ => le_refl _⟩
    · simp only [if_neg h2]; exact ⟨fun _ => le_refl _, fun _ => h01, fun _ => h01.trans h12⟩

/-- Three indices in order that every other index is strictly farther than one of: the picked one is the first of the
    nearest of all. -/
theorem pick_isFirstMin {d : ℕ → ℝ} {c0 c1 c2 : ℕ} (h01 : c0 ≤ c1) (h12 : c1 ≤ c2) (h2 : c2 ≤ 9998)
    (hout : ∀ j ≤ 9998, j ≠ c0 → j ≠ c1 → j ≠ c2 → d c0 < d j ∨ d c1 < d j ∨ d c2 < d j) : IsFirstMin d (pick d c0 c1 c2) := by
  obtain ⟨hmem, hl0, hl1, hl2⟩ := pick_spec d c0 c1 c2
  obtain ⟨hf0, hf1, hf2⟩ := pick_first d h01 h12
  generalize pick d c0 c1 c2 = b at hmem hl0 hl1 hl2 hf0 hf1 hf2
  refine ⟨by omega, fun j hj => ?_⟩
  by_cases e0 : j = c0
  · subst e0; exact ⟨hl0, hf0⟩
  by_cases e1 : j = c1
  · subst e1; exact ⟨hl1, hf1⟩
  by_cases e2 : j = c2
  · subst e2; exact ⟨hl2, hf2⟩
  rcases hout j hj e0 e1 e2 with h | h | h
  · exact ⟨by linarith, fun e => by linarith⟩
  · exact ⟨by linarith, fun e => by linarith⟩
  · exact ⟨by linarith, fun e => by linarith⟩

/-- When index 0 is strictly nearer than every other and is the third of the three, it is picked, whatever the other two. -/
theorem pick_zero {d : ℕ → ℝ} {c0 c1 : ℕ} (h0 : c0 ≤ 9998) (h1 : c1 ≤ 9998) (hd : ∀ j ≤ 9998, j ≠ 0 → d 0 < d j) :
    IsFirstMin d (pick d c0 c1 0) := by
  obtain ⟨hmem, -, -, hl⟩ := pick_spec d c0 c1 0
  have hb : pick d c0 c1 0 = 0 := by
    by_contra hne
    have : pick d c0 c1 0 ≤ 9998 := by omega
    have := hd _ this hne
    linarith
  rw [hb]
  refine ⟨by omega, fun j _ => ⟨?_, fun _ => Nat.zero_le _⟩⟩
  by_cases e : j = 0
  · rw [e]
  · exact (hd j (by omega) e).le

/-! ## A grid close to the hundredths -/

section Grid

variable {t : ℕ → ℝ} (ht : ∀ j ≤ 9998, |t j * 100 - ((j : ℝ) + 1)| < 1 / 2)
include ht

/-- Point `j` lies between the halves of hundredths around `j + 1`. -/
theorem between {j : ℕ} (hj : j ≤ 9998) : (j : ℝ) + 1 / 2 < t j * 100 ∧ t j * 100 < (j : ℝ) + 3 / 2 := by
  obtain ⟨h1, h2⟩ := abs_lt.mp (ht j hj)
  constructor <;> linarith

/-- The grid is increasing. -/
theorem increasing {i j : ℕ} (hj : j ≤ 9998) (hij : i < j) : t i < t j := by
  have h1 := (between ht (le_trans hij.le hj)).2
  have h2 := (between ht hj).1
  have h3 : (i : ℝ) + 1 ≤ (j : ℝ) := by exact_mod_cast hij
  linarith

/-- A point beyond one that lies right of `a` is strictly farther from `a`. -/
theorem farther_right {a : ℝ} {i j : ℕ} (hj : j ≤ 9998) (hij : i < j) (ha : a < t i) : |a - t i| < |a - t j| := by
  have h := increasing ht hj hij
  rw [abs_of_neg (by linarith), abs_of_neg (by linarith)]; linarith

/-- A point before one that lies left of `a` is strictly farther from `a`. -/
theorem farther_left {a : ℝ} {i j : ℕ} (hi : i ≤ 9998) (hji : j < i) (ha : t i ≤ a) : |a - t i| < |a - t j| := by
  have h := increasing ht hi hji
  rw [abs_of_nonneg (by linarith), abs_of_nonneg (by linarith)]; linarith

/-- Right of the grid's first half hundredth: the three indices end at the whole part `n` of `100 a + 1/2`, or at the
    largest 32-bit number when that part is larger still. -/
theorem first_min_right {a : ℝ} {n : ℤ} (h0 : 0 ≤ n) (hle : (n : ℝ) ≤ a * 100 + 1 / 2) (hlt : n ≤ 9998 → a * 100 + 1 / 2 < (n : ℝ) + 1)
    {c0 c1 c2 : ℕ} (hc0 : (c0 : ℤ) = min 9998 (max 0 (n - 2))) (hc1 : (c1 : ℤ) = min 9998 (max 0 (n - 1))) (hc2 : (c2 : ℤ) = min 9998 (max 0 n)) :
    IsFirstMin (fun j => |a - t j|) (pick (fun j => |a - t j|) c0 c1 c2) := by
  refine pick_isFirstMin (by omega) (by omega) (by omega) fun j hj e0 e1 e2 => ?_
  by_cases hr : n < j
  · -- beyond the third index, whose point lies right of `a`
    have hc : (c2 : ℤ) = n := by omega
    have hc' : (c2 : ℝ) = (n : ℝ) := by exact_mod_cast hc
    have h1 := hlt (by omega)
    have h2 := (between ht (show c2 ≤ 9998 by omega)).1
    exact Or.inr (Or.inr (farther_right ht hj (show c2 < j by omega) (by linarith)))
  · -- before the first index, whose point lies left of `a`
    have hl : j < c0 := by omega
    have hc : (c0 : ℤ) ≤ n - 2 := by omega
    have hc' : (c0 : ℝ) ≤ (n : ℝ) - 2 := by exact_mod_cast hc
    have h2 := (between ht (show c0 ≤ 9998 by omega)).2
    exact Or.inl (farther_left ht (show c0 ≤ 9998 by omega) hl (by linarith))

/-- Left of it: the third index is 0, and the others do not matter. -/
theorem first_min_left {a : ℝ} (ha : a * 100 + 1 / 2 < 0) {c0 c1 : ℕ} (h0 : c0 ≤ 9998) (h1 : c1 ≤ 9998) :
    IsFirstMin (fun j => |a - t j|) (pick (fun j => |a - t j|) c0 c1 0) := by
  refine pick_zero h0 h1 fun j hj hne => farther_right ht hj (Nat.pos_of_ne_zero hne) ?_
  have h := (between ht (show 0 ≤ 9998 by omega)).1
  simp only [Nat.cast_zero] at h
  linarith

end Grid

/-! ## The three indices as words -/

/-- A word less a small number, brought into 0 … 9998, when the word is not negative. -/
theorem clip_sub {v : BitVec 32} (k : ℕ) (hk : k ≤ 2) (hv : 0 ≤ v.toInt) : ((clip (IntOp.subi v (BitVec.ofNat 32 k))).toNat : ℤ) = min 9998 (max 0 (v.toInt - k)) := by
  rw [clip_toNat]
  congr 2
  have h1 := BitVec.toInt_eq_toNat_cond v
  have h2 := BitVec.toInt_eq_toNat_cond (IntOp.subi v (BitVec.ofNat 32 k))
  have h3 : (IntOp.subi v (BitVec.ofNat 32 k)).toNat = (2 ^ 32 - k + v.toNat) % 2 ^ 32 := by
    unfold IntOp.subi
    rw [BitVec.toNat_sub, BitVec.toNat_ofNat, Nat.mod_eq_of_lt (show k < 2 ^ 32 by omega)]
  have h4 := v.isLt
  split at h1 <;> split at h2 <;> omega

/-- The kernel's three indices around the word `v` that `100 a + 1/2` truncates to, then its choice: the first of the
    nearest grid points. -/
theorem first_min_of_word {t : ℕ → ℝ} (ht : ∀ j ≤ 9998, |t j * 100 - ((j : ℝ) + 1)| < 1 / 2) {a : ℝ} {v : BitVec 32}
    (hv : v.toInt = max (-2147483648) (min 2147483647 (if 0 ≤ a * 100 + 1 / 2 then ⌊a * 100 + 1 / 2⌋ else ⌈a * 100 + 1 / 2⌉))) :
    IsFirstMin (fun j => |a - t j|)
      (pick (fun j => |a - t j|) (clip (IntOp.subi v 2#32)).toNat (clip (IntOp.subi v 1#32)).toNat (clip v).toNat) := by
  by_cases h : 0 ≤ a * 100 + 1 / 2
  · rw [if_pos h] at hv
    have hf : 0 ≤ ⌊a * 100 + 1 / 2⌋ := Int.floor_nonneg.mpr h
    have h1 := Int.floor_le (a * 100 + 1 / 2)
    have h2 := Int.lt_floor_add_one (a * 100 + 1 / 2)
    generalize ⌊a * 100 + 1 / 2⌋ = n at hv hf h1 h2
    have hv0 : 0 ≤ v.toInt := by omega
    have hle : v.toInt ≤ n := by omega
    have hle' : (v.toInt : ℝ) ≤ (n : ℝ) := by exact_mod_cast hle
    refine first_min_right ht hv0 (by linarith) (fun hs => ?_) (clip_sub 2 (by omega) hv0) (clip_sub 1 (by omega) hv0) (clip_toNat v)
    rw [show v.toInt = n by omega]; exact h2
  · rw [if_neg h] at hv
    have hc : ⌈a * 100 + 1 / 2⌉ ≤ 0 := Int.ceil_le.mpr (by push_cast; linarith)
    have hz : (clip v).toNat = 0 := by have := clip_toNat v; omega
    rw [hz]
    exact first_min_left ht (lt_of_not_ge h) (clip_le _) (clip_le _)

end Cert.Proof.Nearest
-- ==== Proof.IdealLane.lean ====
/-
  One lane of the kernel at the extended reals. Where the query and the grid are finite, every distance the lane
  computes is the real distance, its choice is the real one of `Nearest`, and so the index it chooses is the first of
  the nearest grid points.
-/
module

public import proofs.«01_k».proof.Proof.Nearest
public import Idealize.ShloMosaic.PureOps.Ideal

@[expose] public section

noncomputable section

namespace Cert.Proof.Nearest

open Cert.Proof.Lane
open Idealize.ShloMosaic

/-- The f32 pattern of one hundred. -/
theorem hundred : Ideal.ofBits .f32 0x42C80000#32 = ((100 : ℝ) : EReal) := by
  simp [Ideal.ofBits, Ideal.ieee, -EReal.coe_mul]; norm_num

/-- The f32 pattern of one half. -/
theorem half : Ideal.ofBits .f32 0x3F000000#32 = (((1 : ℝ) / 2 : ℝ) : EReal) := by
  simp [Ideal.ofBits, Ideal.ieee, -EReal.coe_mul]; norm_num

/-- The f32 pattern of infinity. -/
theorem infinity : Ideal.ofBits .f32 0x7F800000#32 = (⊤ : EReal) := by
  simp [Ideal.ofBits, Ideal.ieee]

/-- The grid's entry one above index `j`. -/
def point (ts : Grid Ideal) (j : ℕ) : EReal := ts (Shape.ofLane (d := ![10001]) ⟨(j + 1) % 10001, (Nat.mod_lt _ (by decide) : _ < 10001)⟩)

/-- An absolute value at the extended reals, of a real. -/
theorem abs_coe (r : ℝ) : FloatOps.absf (F := Ideal) (φ := .f32) (r : EReal) = ((|r| : ℝ) : EReal) := by
  show max (r : EReal) (-(r : EReal)) = _
  rw [← EReal.coe_neg, ← EReal.coe_strictMono.monotone.map_max]
  rfl

/-- A "less than" at the extended reals, of reals. -/
theorem lt_coe (p q : ℝ) : FloatOps.cmpf (F := Ideal) (φ := .f32) .olt (p : EReal) (q : EReal) = BitVec.ofBool (decide (p < q)) := by
  show BitVec.ofBool (decide ((p : EReal) < (q : EReal))) = _
  simp only [EReal.coe_lt_coe_iff]

/-- A choice by a decided bit. -/
theorem select_ofBool {α : Type} (p : Prop) [Decidable p] (a b : α) : Scalar.select (BitVec.ofBool (decide p)) a b = if p then a else b := by
  unfold Scalar.select
  by_cases h : p <;> simp [h]

variable {ts : Grid Ideal} {t : ℕ → ℝ} (hts : ∀ j ≤ 9998, point ts j = ((t j : ℝ) : EReal)) {x : Ideal .f32} {a : ℝ} (hx : x = (a : EReal))
include hts hx

/-- A distance the lane computes is the real one. -/
theorem dist_coe {v : BitVec 32} (hv : v.toNat ≤ 9998) : Cert.Proof.Lane.dist ts x v = ((|a - t v.toNat| : ℝ) : EReal) := by
  unfold Cert.Proof.Lane.dist
  rw [show gridAt ts v = point ts v.toNat from rfl, hts _ hv, hx, ← abs_coe, EReal.coe_sub]
  rfl

/-- The lane's choice is the real one. -/
theorem best_toNat : (best ts x).toNat = pick (fun j => |a - t j|) (cand0 x).toNat (cand1 x).toNat (cand2 x).toNat := by
  have h0 : Cert.Proof.Lane.dist ts x (cand0 x) = ((|a - t (cand0 x).toNat| : ℝ) : EReal) := dist_coe hts hx (clip_le _)
  have h1 : Cert.Proof.Lane.dist ts x (cand1 x) = ((|a - t (cand1 x).toNat| : ℝ) : EReal) := dist_coe hts hx (clip_le _)
  have h2 : Cert.Proof.Lane.dist ts x (cand2 x) = ((|a - t (cand2 x).toNat| : ℝ) : EReal) := dist_coe hts hx (clip_le _)
  unfold best nearer2 nearer1
  rw [h0, h1, h2, lt_coe]
  simp only [select_ofBool]
  unfold pick
  by_cases h : |a - t (cand1 x).toNat| < |a - t (cand0 x).toNat|
  · simp only [if_pos h]
    rw [lt_coe, select_ofBool]
    split <;> rfl
  · simp only [if_neg h]
    rw [lt_coe, select_ofBool]
    split <;> rfl

omit hts in
/-- The word the lane looks around: one hundred times the query plus a half, toward zero, within 32 bits. -/
theorem centre_toInt : (centre x).toInt
    = max (-2147483648) (min 2147483647 (if 0 ≤ a * 100 + 1 / 2 then ⌊a * 100 + 1 / 2⌋ else ⌈a * 100 + 1 / 2⌉)) := by
  have h : centre x = BitVec.ofInt 32 (max (-2147483648) (min 2147483647 (if 0 ≤ a * 100 + 1 / 2 then ⌊a * 100 + 1 / 2⌋ else ⌈a * 100 + 1 / 2⌉))) := by
    show Ideal.fptosi 32 (x * Ideal.ofBits .f32 0x42C80000#32 + Ideal.ofBits .f32 0x3F000000#32) = _
    rw [hx, hundred, half, ← EReal.coe_mul, ← EReal.coe_add]
    unfold Ideal.fptosi
    rw [Ideal.toIntClamped_coe]
    rfl
  rw [h]
  generalize (if 0 ≤ a * 100 + 1 / 2 then ⌊a * 100 + 1 / 2⌋ else ⌈a * 100 + 1 / 2⌉) = n
  exact BitVec.toInt_ofInt_eq_self (by decide) (by simp) (by simp)

/-- So the lane's index is the first of the nearest grid points. -/
theorem best_isFirstMin (ht : ∀ j ≤ 9998, |t j * 100 - ((j : ℝ) + 1)| < 1 / 2) :
    IsFirstMin (fun j => |a - t j|) (best ts x).toNat := by
  rw [best_toNat hts hx]
  exact first_min_of_word ht (centre_toInt hx)

end Cert.Proof.Nearest

end
-- ==== Proof.IdealGrid.lean ====
/-
  What the precondition says, over the real numbers: every query is a real number, and every inner grid point is one,
  less than half a hundredth from its place.
-/
module

public import proofs.«01_k».proof.Proof.IdealLane
public import proofs.«01_k».proof.Pre_uniform_grid
public import Idealize.ShloMosaic.Lib.ValueIdxCore

@[expose] public section

noncomputable section

namespace Cert.Proof.Nearest

open Cert.Proof.Lane Cert.Pre_uniform_grid
open Idealize.ShloMosaic Idealize.ShloMosaic.ValueIdx

/-- A bit that is one was decided true. -/
theorem of_bit {p : Prop} [Decidable p] (h : BitVec.ofBool (decide p) = 1#1) : p := by
  by_contra hp
  rw [decide_eq_false hp] at h
  exact absurd h (by decide)

/-- An extended real whose absolute value is below infinity is a real number. -/
theorem real_of_abs_lt_top {x : EReal} (h : max x (-x) < ⊤) : ∃ a : ℝ, x = (a : EReal) := by
  induction x using EReal.rec with
  | bot => simp at h
  | coe a => exact ⟨a, rfl⟩
  | top => simp at h

/-- An extended real that is, a hundred times, less than a half from a real number is a real number with that property. -/
theorem real_of_near {x : EReal} {n : ℝ}
    (h : max (x * ((100 : ℝ) : EReal) - (n : EReal)) (-(x * ((100 : ℝ) : EReal) - (n : EReal))) < (((1 : ℝ) / 2 : ℝ) : EReal)) :
    ∃ t : ℝ, x = (t : EReal) ∧ |t * 100 - n| < 1 / 2 := by
  induction x using EReal.rec with
  | bot =>
    rw [EReal.bot_mul_coe_of_pos (by norm_num), EReal.bot_sub, EReal.neg_bot, max_eq_right bot_le] at h
    exact absurd h not_top_lt
  | coe t =>
    refine ⟨t, rfl, ?_⟩
    rw [← EReal.coe_mul, ← EReal.coe_sub] at h
    have h' := abs_coe (t * 100 - n)
    rw [show FloatOps.absf (F := Ideal) (φ := .f32) ((t * 100 - n : ℝ) : EReal) = max ((t * 100 - n : ℝ) : EReal) (-((t * 100 - n : ℝ) : EReal)) from rfl] at h'
    rw [h'] at h
    exact EReal.coe_lt_coe_iff.mp h
  | top =>
    rw [EReal.top_mul_coe_of_pos (by norm_num), EReal.top_sub_coe, max_eq_left le_top] at h
    exact absurd h not_top_lt

variable [Cert.Pre_uniform_grid.Facts] {x : FVec Ideal S4096 .f32} {y : FVec Ideal S10001x4096 .f32} {ts : FVec Ideal S10001 .f32}

/-- Every query is a real number. -/
theorem query_real (h : (fn (F := Ideal) x y ts).1 = fun _ => 1#1) (i : S4096.Idx) : ∃ a : ℝ, x i = (a : EReal) := by
  have h1 : BitVec.ofBool (decide (max (x i) (-(x i)) < Ideal.ofBits .f32 0x7F800000#32)) = 1#1 := congrFun h i
  have h2 := of_bit h1
  rw [infinity] at h2
  exact real_of_abs_lt_top h2

/-- One more than a small number, as a word, read signed. -/
theorem one_add_toInt {j : ℕ} (hj : j ≤ 9998) : (IntOp.addi 1#32 (BitVec.ofNat 32 j)).toInt = (j : ℤ) + 1 := by
  unfold IntOp.addi
  rw [BitVec.toInt_eq_toNat_cond, BitVec.toNat_add, BitVec.toNat_ofNat, BitVec.toNat_ofNat]
  split <;> omega

/-- Every inner grid point is a real number close to its place. -/
theorem point_near (h : (fn (F := Ideal) x y ts).2 = fun _ => 1#1) {j : ℕ} (hj : j ≤ 9998) :
    ∃ t : ℝ, point ts j = (t : EReal) ∧ |t * 100 - ((j : ℝ) + 1)| < 1 / 2 := by
  have e : ts (fun a => ⟨(![1] : Fin 1 → ℕ) a + (ix1 (⟨j, by omega⟩ : Fin 9999) a).val, by
      obtain rfl : a = 0 := Subsingleton.elim _ _
      show 1 + j < 10001
      omega⟩) = point ts j := by
    unfold point
    congr 1
    funext a
    obtain rfl : a = 0 := Subsingleton.elim _ _
    exact Fin.ext (show 1 + j = (j + 1) % 10001 by omega)
  have h1 : BitVec.ofBool (decide (max (point ts j * Ideal.ofBits .f32 0x42C80000#32 - (((IntOp.addi 1#32 (BitVec.ofNat 32 j)).toInt : ℝ) : EReal))
      (-(point ts j * Ideal.ofBits .f32 0x42C80000#32 - (((IntOp.addi 1#32 (BitVec.ofNat 32 j)).toInt : ℝ) : EReal)))
      < Ideal.ofBits .f32 0x3F000000#32)) = 1#1 := by
    rw [← e]
    exact congrFun h (ix1 (⟨j, by omega⟩ : Fin 9999))
  have h2 := of_bit h1
  rw [one_add_toInt hj, hundred, half] at h2
  obtain ⟨t, e1, e2⟩ := real_of_near h2
  refine ⟨t, e1, ?_⟩
  push_cast at e2
  exact e2

/-- So the inner grid is a sequence of real numbers, each close to its place. -/
theorem grid_real (h : (fn (F := Ideal) x y ts).2 = fun _ => 1#1) :
    ∃ t : ℕ → ℝ, (∀ j ≤ 9998, point ts j = ((t j : ℝ) : EReal)) ∧ ∀ j ≤ 9998, |t j * 100 - ((j : ℝ) + 1)| < 1 / 2 := by
  refine ⟨fun j => (point ts j).toReal, fun j hj => ?_, fun j hj => ?_⟩
  · obtain ⟨t, e, -⟩ := point_near h hj
    simp only [e, EReal.toReal_coe]
  · obtain ⟨t, e, hn⟩ := point_near h hj
    simpa only [e, EReal.toReal_coe] using hn

end Cert.Proof.Nearest

end
-- ==== Proof.RefArgmin.lean ====
/-
  The reference's arg-min. Its body keeps one of the two pairs it is given, the one that comes first in the order of the
  values, then of the indices; so the pair that is left of a row comes before every pair of the row. Over real numbers
  its index is then the first of the nearest grid points.
-/
module

public import proofs.«01_k».proof.Proof.RefRun
public import proofs.«01_k».proof.Proof.IdealLane
public import Idealize.ShloMosaic.PureOps.Ideal.Laws
public import Idealize.ShloMosaic.Lib.Pointwise.Reduce

@[expose] public section

noncomputable section

namespace Cert.Proof.Reference

open Cert.ReferenceIdeal Cert.ReferenceIdeal.Gen Cert.Proof.Nearest
open Idealize.ShloMosaic

/-- A value and an index. -/
abbrev Entry : Type := EReal × BitVec 32

/-- `p` comes no later than `q`: by value, then by index. -/
def Before (p q : Entry) : Prop := p.1 < q.1 ∨ p.1 = q.1 ∧ p.2.toInt ≤ q.2.toInt

theorem Before.refl (p : Entry) : Before p p := Or.inr ⟨rfl, le_refl _⟩

theorem Before.trans {p q r : Entry} (h : Before p q) (h' : Before q r) : Before p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- The body's choice, decided. -/
theorem body_eq (a b : Entry) : reducer_argmin_f32_i32 (F := Ideal) a b
    = (if a.1 < b.1 then a.1 else b.1, if a.1 < b.1 ∨ a.1 = b.1 ∧ a.2.toInt < b.2.toInt then a.2 else b.2) := by
  have h1 : FloatOps.cmpf (F := Ideal) (φ := .f32) .olt a.1 b.1 = BitVec.ofBool (decide (a.1 < b.1)) := rfl
  have h2 : FloatOps.cmpf (F := Ideal) (φ := .f32) .une a.1 a.1 = 0#1 := by
    show BitVec.ofBool (decide (a.1 ≠ a.1)) = 0#1
    simp
  have h3 : FloatOps.cmpf (F := Ideal) (φ := .f32) .oeq a.1 b.1 = BitVec.ofBool (decide (a.1 = b.1)) := rfl
  have h4 : IntOp.cmpi .slt a.2 b.2 = BitVec.ofBool (decide (a.2.toInt < b.2.toInt)) := by
    unfold IntOp.cmpi
    simp only [BitVec.slt_eq_decide]
  unfold reducer_argmin_f32_i32
  simp only [h1, h2, h3, h4, IntOp.ori, IntOp.andi, Scalar.select]
  by_cases c1 : a.1 < b.1 <;> by_cases c2 : a.1 = b.1 <;> by_cases c3 : a.2.toInt < b.2.toInt <;> simp [c1, c2, c3]

/-- It keeps one of the two, and what it keeps comes before both. -/
theorem body_spec (a b : Entry) : (reducer_argmin_f32_i32 (F := Ideal) a b = a ∨ reducer_argmin_f32_i32 (F := Ideal) a b = b)
    ∧ Before (reducer_argmin_f32_i32 (F := Ideal) a b) a ∧ Before (reducer_argmin_f32_i32 (F := Ideal) a b) b := by
  rw [body_eq]
  rcases lt_trichotomy a.1 b.1 with h | h | h
  · rw [if_pos h, if_pos (Or.inl h)]
    exact ⟨Or.inl rfl, Before.refl _, Or.inl h⟩
  · rw [if_neg (by rw [h]; exact lt_irrefl _)]
    by_cases hi : a.2.toInt < b.2.toInt
    · rw [if_pos (Or.inr ⟨h, hi⟩)]
      exact ⟨Or.inl (Prod.ext h.symm rfl), Or.inr ⟨h.symm, le_refl _⟩, Or.inr ⟨rfl, hi.le⟩⟩
    · rw [if_neg (by rintro (h' | ⟨-, h'⟩); · exact absurd h (ne_of_lt h')
                     · exact hi h')]
      exact ⟨Or.inr rfl, Or.inr ⟨h.symm, not_lt.mp hi⟩, Before.refl _⟩
  · rw [if_neg (not_lt.mpr h.le), if_neg (by rintro (h' | ⟨h', -⟩); · exact absurd h (not_lt.mpr h'.le)
                                             · exact absurd h (h' ▸ lt_irrefl _))]
    exact ⟨Or.inr rfl, Or.inl h, Before.refl _⟩

/-- A fold of such a body leaves the initial pair or one of the list, and what it leaves comes before all of them. -/
theorem fold_spec {f : Entry → Entry → Entry} (hf : ∀ a b, (f a b = a ∨ f a b = b) ∧ Before (f a b) a ∧ Before (f a b) b) (l : List Entry) :
    ∀ e : Entry, (l.foldl f e = e ∨ l.foldl f e ∈ l) ∧ Before (l.foldl f e) e ∧ ∀ p ∈ l, Before (l.foldl f e) p := by
  induction l with
  | nil => exact fun e => ⟨Or.inl rfl, Before.refl _, fun p hp => absurd hp List.not_mem_nil⟩
  | cons p l ih =>
    intro e
    obtain ⟨hm, he, hl⟩ := ih (f e p)
    obtain ⟨hm', he', hp'⟩ := hf e p
    rw [List.foldl_cons]
    refine ⟨?_, he.trans he', fun q hq => ?_⟩
    · rcases hm with hm | hm
      · rcases hm' with hm' | hm'
        · exact Or.inl (hm.trans hm')
        · exact Or.inr (by rw [hm, hm']; exact List.mem_cons_self)
      · exact Or.inr (List.mem_cons_of_mem _ hm)
    · rcases List.mem_cons.mp hq with rfl | hq
      · exact he.trans hp'
      · exact hl q hq

/-- A small number as a word, read signed. -/
theorem ofNat_toInt {k : ℕ} (hk : k ≤ 9998) : (BitVec.ofNat 32 k).toInt = (k : ℤ) := by
  rw [BitVec.toInt_eq_toNat_cond, BitVec.toNat_ofNat]
  split <;> omega

/-- Where the pairs are real distances with their indices, the fold's index, from a pair of infinite value, is the first
    of the least distances. -/
theorem fold_isFirstMin {d : ℕ → ℝ} {l : List Entry} (hl : ∀ p, p ∈ l ↔ ∃ k : Fin 9999, p = (((d k.val : ℝ) : EReal), BitVec.ofNat 32 k.val))
    {e : Entry} (he : e.1 = ⊤) : IsFirstMin d (l.foldl (reducer_argmin_f32_i32 (F := Ideal)) e).2.toNat := by
  obtain ⟨hm, -, hb⟩ := fold_spec body_spec l e
  generalize l.foldl (reducer_argmin_f32_i32 (F := Ideal)) e = r at hm hb ⊢
  have hb' : ∀ k : Fin 9999, Before r (((d k.val : ℝ) : EReal), BitVec.ofNat 32 k.val) := fun k => hb _ ((hl _).mpr ⟨k, rfl⟩)
  have hr : ∃ k : Fin 9999, r = (((d k.val : ℝ) : EReal), BitVec.ofNat 32 k.val) := by
    rcases hm with hm | hm
    · -- no pair of the row comes after one of infinite value
      exfalso
      rcases hb' 0 with h0 | ⟨h0, -⟩
      · rw [hm, he] at h0; exact not_top_lt h0
      · rw [hm, he] at h0; exact EReal.coe_ne_top _ h0.symm
    · exact (hl r).mp hm
  obtain ⟨k, rfl⟩ := hr
  have hk : (BitVec.ofNat 32 k.val).toNat = k.val := by rw [BitVec.toNat_ofNat]; omega
  show IsFirstMin _ (BitVec.ofNat 32 k.val).toNat
  rw [hk]
  refine ⟨by omega, fun i hi => ?_⟩
  rcases hb' ⟨i, by omega⟩ with h | ⟨h, hw⟩
  · have h' := EReal.coe_lt_coe_iff.mp h
    exact ⟨h'.le, fun e => absurd e (ne_of_gt h')⟩
  · have h' := EReal.coe_eq_coe_iff.mp h
    refine ⟨h'.le, fun _ => ?_⟩
    simp only [ofNat_toInt (show k.val ≤ 9998 by omega), ofNat_toInt hi] at hw
    omega

/-- The pairs reduced for index `j`, of any two arrays: those at the indices that drop to `j`. -/
theorem mem_argReduceFiber {s u : Shape} {axes : List (Fin s.rank)} (x : FVec Ideal s .f32) (y : IVec s 32) (h : s.ReducesTo axes u) (j : u.Idx) (p : Entry) :
    p ∈ Host.argReduceFiber x y h j ↔ ∃ n : s.Idx, h.drop n = j ∧ p = (x n, y n) := by
  unfold Host.argReduceFiber
  rw [List.mem_map]
  constructor
  · rintro ⟨n, hn, rfl⟩
    exact ⟨_, of_decide_eq_true (List.mem_filter.mp hn).2, rfl⟩
  · rintro ⟨n, hn, rfl⟩
    refine ⟨s.rowMajor n, List.mem_filter.mpr ⟨List.mem_finRange _, ?_⟩, ?_⟩
    · rw [Equiv.symm_apply_apply]; exact decide_eq_true hn
    · rw [Equiv.symm_apply_apply]

/-- The same of an arg-min `f` over such pairs. -/
theorem argmin_isFirstMin {s u v : Shape} {axes : List (Fin s.rank)} (x : FVec Ideal s .f32) (y : IVec s 32) (ix : FVec Ideal v .f32) (iy : IVec v 32)
    (h : s.ReducesTo axes u) (hv : 0 < v.numel) {f : IVec u 32}
    (hf : f = fun j => (Host.argReduce (reducer_argmin_f32_i32 (F := Ideal)) x y ix iy h hv j).2) (j : u.Idx) {d : ℕ → ℝ}
    (hl : ∀ p : Entry, p ∈ Host.argReduceFiber x y h j ↔ ∃ k : Fin 9999, p = (((d k.val : ℝ) : EReal), BitVec.ofNat 32 k.val))
    (he : ix (Shape.Idx.first hv) = (⊤ : EReal)) :
    IsFirstMin d (f j).toNat := by
  subst hf
  show IsFirstMin d (Host.argReduce (reducer_argmin_f32_i32 (F := Ideal)) x y ix iy h hv j).2.toNat
  rw [Ideal.argReduce_eq_reduce2, Host.reduce2_eq_foldl_fiber]
  exact fold_isFirstMin hl he

end Cert.Proof.Reference

end
-- ==== Proof.RefRow.lean ====
/-
  The rows the reference reduces. Row `i` holds the distances of query `i` to the inner grid points, each beside its
  index; where these are real numbers, the index the reference finds is the first of the nearest grid points.
-/
module

public import proofs.«01_k».proof.Proof.RefArgmin
public import Idealize.ShloMosaic.Lib.Pointwise.Reshape

@[expose] public section

noncomputable section

namespace Cert.Proof.Reference

open Cert.ReferenceIdeal Cert.ReferenceIdeal.Gen Cert.Proof.Nearest
open Idealize.ShloMosaic

/-- An array spread along new axes or along axes of extent one, read at an index: the array at the index whose
    coordinates are those of the axes it goes to, or 0 where its own extent is one. -/
theorem spread_apply {s u : Shape} {α : Type} (dims : Fin s.rank → Fin u.rank) (h : s.BroadcastsInDim u dims) (x : s.Idx → α) (j : u.Idx) (i : s.Idx)
    (h1 : ∀ a, s.size a = 1 → (i a).val = 0) (h2 : ∀ a, s.size a ≠ 1 → (i a).val = (j (dims a)).val) : broadcastInDim u dims h x j = x i := by
  unfold broadcastInDim
  congr 1
  funext a
  refine Fin.ext ?_
  by_cases e : s.size a = 1
  · rw [dif_pos e, h1 a e]
  · rw [dif_neg e, h2 a e]

/-- A column made of a row of queries holds the query's entry in its row. -/
theorem column_apply {α : Type} (x : S4096.Idx → α) (i : Fin 4096) (z : Fin 1) : shapeCast S4096x1 x shapeCasts_S4096_S4096x1 (ix2 i z) = x (ix1 i) := by
  show x (Shape.reshapeEquiv _ _) = _
  congr 1
  refine Shape.reshapeEquiv_eq_of_rowMajor _ ?_
  rw [rowMajor_val1, rowMajor_val2 _ 1 rfl]
  show i.val = i.val * 1 + z.val
  omega

section Row

variable {x : FVec Ideal S4096 .f32} {ts : FVec Ideal S10001 .f32} {t : ℕ → ℝ} (hts : ∀ j ≤ 9998, point ts j = ((t j : ℝ) : EReal))

/-- The inner grid, cut out of the whole. -/
theorem inner_apply (k : Fin 9999) : extractStridedSlice S9999 ![1] ts slices_S10001_S9999_1 (ix1 k) = point ts k.val := by
  unfold point
  show ts _ = ts _
  congr 1
  funext a
  obtain rfl : a = 0 := Subsingleton.elim _ _
  exact Fin.ext (show 1 + k.val = (k.val + 1) % 10001 by omega)

/-- How far query `i` is from grid point `k`, as the reference computes it. -/
theorem gaps_eq (i : Fin 4096) (k : Fin 9999) :
    gaps x ts (ix2 i k) = FloatOps.hostAbsf (F := Ideal) (φ := .f32) (FloatOps.subf (F := Ideal) (φ := .f32) (x (ix1 i)) (point ts k.val)) := by
  have e1 : broadcastInDim S4096x9999 ![0, 1] bcast_S4096x1_S4096x9999_0_1 (shapeCast S4096x1 x shapeCasts_S4096_S4096x1) (ix2 i k) = x (ix1 i) := by
    rw [spread_apply _ _ _ _ (ix2 i (0 : Fin 1)) (fun a ha => ?_) (fun a ha => ?_), column_apply]
    · match a with
      | ⟨0, _⟩ => exact absurd ha (show ¬((4096 : ℕ) = 1) by decide)
      | ⟨1, _⟩ => rfl
    · match a with
      | ⟨0, _⟩ => rfl
      | ⟨1, _⟩ => exact absurd rfl ha
  have e2 : broadcastInDim S4096x9999 ![0, 1] bcast_S1x9999_S4096x9999_0_1
      (broadcastInDim S1x9999 ![1] bcast_S9999_S1x9999_1 (extractStridedSlice S9999 ![1] ts slices_S10001_S9999_1)) (ix2 i k) = point ts k.val := by
    rw [spread_apply _ _ _ _ (ix2 (0 : Fin 1) k) (fun a ha => ?_) (fun a ha => ?_),
      spread_apply _ _ _ _ (ix1 k) (fun a ha => ?_) (fun a ha => ?_), inner_apply]
    · obtain rfl : a = 0 := Subsingleton.elim _ _
      exact absurd ha (show ¬((9999 : ℕ) = 1) by decide)
    · obtain rfl : a = 0 := Subsingleton.elim _ _
      rfl
    · match a with
      | ⟨0, _⟩ => rfl
      | ⟨1, _⟩ => exact absurd ha (show ¬((9999 : ℕ) = 1) by decide)
    · match a with
      | ⟨0, _⟩ => exact absurd rfl ha
      | ⟨1, _⟩ => rfl
  rw [← e1, ← e2]
  rfl

/-- The pairs that are reduced for query `i`: the distance to each grid point, with its index. -/
theorem mem_fiber (i : Fin 4096) (p : Entry) :
    p ∈ Host.argReduceFiber (gaps x ts) (iotaInDim S4096x9999 32 1) reducesTo_S4096x9999_S4096_d1 (ix1 i)
      ↔ ∃ k : Fin 9999, p = (gaps x ts (ix2 i k), BitVec.ofNat 32 k.val) := by
  refine (mem_argReduceFiber _ _ _ _ p).trans ⟨?_, ?_⟩
  · rintro ⟨n, hn, rfl⟩
    obtain ⟨k, hk⟩ := (Shape.ReducesTo.fiber_r2_a1 reducesTo_S4096x9999_S4096_d1 (ix1 i) n).mp hn
    exact ⟨k, by rw [← hk]; rfl⟩
  · rintro ⟨k, rfl⟩
    exact ⟨ix2 i k, (Shape.ReducesTo.fiber_r2_a1 reducesTo_S4096x9999_S4096_d1 (ix1 i) _).mpr ⟨k, rfl⟩, rfl⟩

/-- The value the reduction starts from is infinite. -/
theorem start_infinite (j : S_.Idx) : constant (F := Ideal) S_ .f32 0x7F800000#32 j = (⊤ : EReal) := infinity

include hts

/-- A distance of the reference, over real numbers. -/
theorem gaps_real {i : Fin 4096} {a : ℝ} (hx : x (ix1 i) = (a : EReal)) (k : Fin 9999) : gaps x ts (ix2 i k) = ((|a - t k.val| : ℝ) : EReal) := by
  rw [gaps_eq, hts k.val (by omega), hx, ← abs_coe, EReal.coe_sub]
  rfl

/-- The pairs reduced for a query, over real numbers. -/
theorem mem_fiber_real {i : Fin 4096} {a : ℝ} (hx : x (ix1 i) = (a : EReal)) (p : Entry) :
    p ∈ Host.argReduceFiber (gaps x ts) (iotaInDim S4096x9999 32 1) reducesTo_S4096x9999_S4096_d1 (ix1 i)
      ↔ ∃ k : Fin 9999, p = (((|a - t k.val| : ℝ) : EReal), BitVec.ofNat 32 k.val) := by
  rw [mem_fiber]
  exact exists_congr fun k => by rw [gaps_real hts hx]

omit hts in
/-- The reference's indices, spelt out. -/
theorem nearest_eq : nearest x ts = fun j => (Host.argReduce reducer_argmin_f32_i32 (gaps x ts) (iotaInDim S4096x9999 32 1)
    (constant (F := Ideal) S_ .f32 0x7F800000#32) (constantI S_ 32 0#32) reducesTo_S4096x9999_S4096_d1 h_S_ j).2 := rfl

/-- The reference's index is the first of the nearest grid points. -/
theorem nearest_isFirstMin (i : Fin 4096) {a : ℝ} (hx : x (ix1 i) = (a : EReal)) :
    IsFirstMin (fun k => |a - t k|) (nearest x ts (ix1 i)).toNat :=
  argmin_isFirstMin (gaps x ts) (iotaInDim S4096x9999 32 1) (constant (F := Ideal) S_ .f32 0x7F800000#32) (constantI S_ 32 0#32)
    reducesTo_S4096x9999_S4096_d1 h_S_ nearest_eq (ix1 i) (mem_fiber_real hts hx) (start_infinite _)

end Row

end Cert.Proof.Reference

end
-- ==== Proof.RefValue.lean ====
/-
  The reference's result, entry by entry: for query `i` it reads the samples one row above the index it found (the first
  row belongs to no index), in column `i`.
-/
module

public import proofs.«01_k».proof.Proof.RefRow
public import Idealize.ShloMosaic.Lib.Pipeline.Value

@[expose] public section

noncomputable section

namespace Cert.Proof.Reference

open Cert.ReferenceIdeal Cert.ReferenceIdeal.Gen Cert.Proof.Nearest
open Idealize.ShloMosaic

/-- An index that is not negative stays as it is. -/
theorem wrap_apply (n : BitVec 32) (v : IVec S4096 32) (j : S4096.Idx) (h : 0 ≤ (v j).toInt) : wrap n v j = v j := by
  have hc : IntOp.cmpi .slt (v j) 0#32 = 0#1 := by
    unfold IntOp.cmpi
    simp only [BitVec.slt_eq_decide, BitVec.toInt_zero, decide_eq_false (not_lt.mpr h), BitVec.ofBool_false]
    rfl
  show Scalar.select (IntOp.cmpi .slt (v j) 0#32) _ (v j) = v j
  rw [hc]
  rfl

/-- The place of a pair of coordinates among the two columns they are read from. -/
theorem pair_apply_row (a b : IVec S4096x1 32) (i : Fin 4096) :
    concatenate S4096x2 1 [⟨S4096x1, a⟩, ⟨S4096x1, b⟩] concatenates_S4096x1_S4096x1_S4096x2_d1 (ix2 i (0 : Fin 2)) = a (ix2 i (0 : Fin 1)) :=
  concatenate_pair_apply_left (t := S4096x2) (s₁ := S4096x1) (s₂ := S4096x1) 1 a b _ _ rfl _ fun c => by
    match c with
    | ⟨0, _⟩ => rfl
    | ⟨1, _⟩ => rfl
theorem pair_apply_col (a b : IVec S4096x1 32) (i : Fin 4096) :
    concatenate S4096x2 1 [⟨S4096x1, a⟩, ⟨S4096x1, b⟩] concatenates_S4096x1_S4096x1_S4096x2_d1 (ix2 i (1 : Fin 2)) = b (ix2 i (0 : Fin 1)) :=
  concatenate_pair_apply_right (t := S4096x2) (s₁ := S4096x1) (s₂ := S4096x1) 1 a b _ _ rfl rfl _ (fun c hc => by
    match c with
    | ⟨0, _⟩ => rfl
    | ⟨1, _⟩ => exact absurd rfl hc) rfl

/-- A column made of a list of words, at its row. -/
theorem column_word (v : IVec S4096 32) (i : Fin 4096) : broadcastInDim S4096x1 ![0] bcast_S4096_S4096x1_0 v (ix2 i (0 : Fin 1)) = v (ix1 i) := by
  refine spread_apply _ _ _ _ _ (fun a ha => ?_) fun a _ => ?_
  · obtain rfl : a = 0 := Subsingleton.elim _ _
    exact absurd ha (show ¬((4096 : ℕ) = 1) by decide)
  · obtain rfl : a = 0 := Subsingleton.elim _ _
    rfl

local notation "gd" => gather_S9999x4096_S4096x2_S4096_n_01_n_n_01_1_11

/-- Where the gather's coordinates on an axis of the array come from. -/
theorem coord_eq (idx : IVec S4096x2 32) (i : Fin 4096) (a : Fin 2) :
    GatherDims.start gd (ix1 i) idx a = min (idx (ix2 i a)).toInt.toNat (S9999x4096.size a - 1) := by
  have hm : ∀ a : Fin 2, a ∈ GatherDims.startIndexMap gd := fun a => by
    match a with
    | ⟨0, _⟩ => exact List.mem_cons_self
    | ⟨1, _⟩ => exact List.mem_cons_of_mem _ List.mem_cons_self
  unfold GatherDims.start
  rw [dif_pos (hm a)]
  have hs : GatherDims.siIdx gd (ix1 i) ⟨(GatherDims.startIndexMap gd).idxOf a, List.idxOf_lt_length_iff.2 (hm a)⟩ = ix2 i a := by
    funext b
    refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
  rw [hs]
  match a with
  | ⟨0, _⟩ => rfl
  | ⟨1, _⟩ => rfl

/-- The gather at a query: the array at the row and the column its pair of coordinates names. -/
theorem gather_apply {α : Type} (y : S9999x4096.Idx → α) (idx : IVec S4096x2 32) (i : Fin 4096) (r : Fin 9999) (c : Fin 4096)
    (hr : (idx (ix2 i (0 : Fin 2))).toInt = r.val) (hc : (idx (ix2 i (1 : Fin 2))).toInt = c.val) : Host.gather gd y idx (ix1 i) = y (ix2 r c) := by
  have hk : ∀ a : Fin 2, a ∉ GatherDims.sKept gd := fun a h => by
    refine ((GatherDims.mem_sKept gd a).mp h).1 ?_
    match a with
    | ⟨0, _⟩ => exact List.mem_cons_self
    | ⟨1, _⟩ => exact List.mem_cons_of_mem _ List.mem_cons_self
  unfold Host.gather
  congr 1
  funext a
  refine Fin.ext ?_
  show GatherDims.start gd (ix1 i) idx a + GatherDims.batchCoord gd (ix1 i) a + GatherDims.offCoord gd (ix1 i) a = _
  rw [GatherDims.batchCoord_eq_zero _ _ _ List.not_mem_nil, GatherDims.offCoord_eq_zero _ _ _ (hk a), coord_eq]
  match a with
  | ⟨0, _⟩ =>
    show min (idx (ix2 i (0 : Fin 2))).toInt.toNat (9999 - 1) + 0 + 0 = r.val
    rw [hr]; omega
  | ⟨1, _⟩ =>
    show min (idx (ix2 i (1 : Fin 2))).toInt.toNat (4096 - 1) + 0 + 0 = c.val
    rw [hc]; omega

/-- The gather at the places of a list of row indices. -/
theorem read_apply {α : Type} (y : S9999x4096.Idx → α) (v : IVec S4096 32) (i : Fin 4096) (r : Fin 9999) (hv : (v (ix1 i)).toNat = r.val) :
    Host.gather gd y (concatenate S4096x2 1 [⟨S4096x1, broadcastInDim S4096x1 ![0] bcast_S4096_S4096x1_0 (wrap 9999#32 v)⟩,
      ⟨S4096x1, broadcastInDim S4096x1 ![0] bcast_S4096_S4096x1_0 (wrap 4096#32 (iotaInDim S4096 32 0))⟩] concatenates_S4096x1_S4096x1_S4096x2_d1) (ix1 i)
      = y (ix2 r i) := by
  have h1 : (v (ix1 i)).toInt = r.val := by
    rw [BitVec.toInt_eq_toNat_cond]
    split <;> omega
  have h2 : ((iotaInDim S4096 32 0 : IVec S4096 32) (ix1 i)).toInt = i.val := ofNat_toInt (show i.val ≤ 9998 by omega)
  refine gather_apply y _ i r i ?_ ?_
  · rw [pair_apply_row, column_word, wrap_apply _ _ _ (by omega), h1]
  · rw [pair_apply_col, column_word, wrap_apply _ _ _ (by omega), h2]

/-- The samples but the first row and the last, at an index. -/
theorem middle_apply {α : Type} (y : S10001x4096.Idx → α) (r : Fin 9999) (i : Fin 4096) :
    extractStridedSlice S9999x4096 ![1, 0] y slices_S10001x4096_S9999x4096_1_0 (ix2 r i) = y (ix2 (⟨r.val + 1, by omega⟩ : Fin 10001) i) := by
  unfold extractStridedSlice
  congr 1
  funext a
  refine Fin.ext ?_
  match a with
  | ⟨0, _⟩ => exact Nat.add_comm 1 r.val
  | ⟨1, _⟩ => exact Nat.zero_add i.val

/-- The reference's result at query `i`. -/
theorem answer_apply (x : FVec Ideal S4096 .f32) (y : FVec Ideal S10001x4096 .f32) (ts : FVec Ideal S10001 .f32) (i : Fin 4096) (z : Fin 1)
    {b : ℕ} (hb : b ≤ 9998) (h : (nearest x ts (ix1 i)).toNat = b) : answer x y ts (ix2 i z) = y (ix2 (⟨b + 1, by omega⟩ : Fin 10001) i) := by
  unfold answer places
  exact (column_apply _ i z).trans ((read_apply _ _ i ⟨b, by omega⟩ h).trans (middle_apply y ⟨b, by omega⟩ i))

end Cert.Proof.Reference

end
-- ==== Proof.Value.lean ====
/-
  The two results are one. Where the queries and the grid are as the precondition says, the index the kernel chooses and
  the index the reference finds are both the first of the nearest grid points, and both programs then read the sample one
  row above it, in the query's column.
-/
module

public import proofs.«01_k».proof.Proof.IdealGrid
public import proofs.«01_k».proof.Proof.RefValue
public import proofs.«01_k».proof.Proof.KernelIdealRun

@[expose] public section

noncomputable section

namespace Cert.Proof.Value

open Cert.Proof.Lane Cert.Proof.Nearest
open Idealize.ShloMosaic

/-- The samples laid flat, at place `n` of row `r` and column `c`. -/
theorem flat_apply {α : Type} (y : Cert.KernelIdeal.S10001x4096.Idx → α) (h) (r : Fin 10001) (c : Fin 4096) (n : Fin 40964096) (hn : n.val = r.val * 4096 + c.val) :
    shapeCast Cert.KernelIdeal.S40964096 y h (Shape.ofLane (d := ![40964096]) n) = y (ix2 r c) := by
  show y (Shape.reshapeEquiv _ _) = _
  congr 1
  refine Shape.reshapeEquiv_eq_of_rowMajor _ ?_
  rw [rowMajor_val1, rowMajor_val2 _ 4096 rfl]
  exact hn.symm

/-- What the kernel's tiles leave for query `i`. -/
theorem sampled_apply (x : FVec Ideal Cert.KernelIdeal.S4096 .f32) (y : FVec Ideal Cert.KernelIdeal.S10001x4096 .f32) (ts : Grid Ideal) (h) (i : Fin 4096) :
    sampled x ts (shapeCast Cert.KernelIdeal.S40964096 y h) (ix1 i)
      = y (ix2 (⟨(best ts (x (ix1 i))).toNat + 1, by have := best_le ts (x (ix1 i)); omega⟩ : Fin 10001) i) := by
  unfold sampled
  have hb := best_le ts (x (ix1 i))
  refine flat_apply y h _ _ _ ?_
  show (((best ts (x (ix1 i))).toNat + 1) * 4096 + i.val) % 40964096 = ((best ts (x (ix1 i))).toNat + 1) * 4096 + i.val
  omega

variable [Cert.Pre_uniform_grid.Facts]

/-- The kernel's column is the reference's. -/
theorem column_eq (x : FVec Ideal Cert.KernelIdeal.S4096 .f32) (y : FVec Ideal Cert.KernelIdeal.S10001x4096 .f32) (ts : Grid Ideal) (h)
    (hx : (Cert.Pre_uniform_grid.fn (F := Ideal) x y ts).1 = fun _ => 1#1) (ht : (Cert.Pre_uniform_grid.fn (F := Ideal) x y ts).2 = fun _ => 1#1) :
    shapeCast Cert.KernelIdeal.S4096x1 (sampled x ts (shapeCast Cert.KernelIdeal.S40964096 y h)) Cert.ReferenceIdeal.Gen.shapeCasts_S4096_S4096x1
      = Cert.Proof.Reference.answer x y ts := by
  obtain ⟨t, hts, hn⟩ := grid_real ht
  funext j
  obtain ⟨i, z, rfl⟩ : ∃ (i : Fin 4096) (z : Fin 1), j = ix2 i z := ⟨j 0, j 1, eq_ix2 j⟩
  obtain ⟨a, ha⟩ := query_real hx (ix1 i)
  have h1 := best_isFirstMin hts ha hn
  have h2 := Cert.Proof.Reference.nearest_isFirstMin hts i ha
  rw [Cert.Proof.Reference.answer_apply x y ts i z h1.1 (h2.unique h1)]
  exact (Cert.Proof.Reference.column_apply _ i z).trans (sampled_apply x y ts h i)

end Cert.Proof.Value

end
-- ==== Proof.lean ====
/-
  The claims put together. The frames are the runs of `KernelRun`, `KernelIdealRun` and `RefRun` with the values dropped;
  the algebraic claim is the two runs over the extended reals with the equation of `Value`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_uniform_grid
public import proofs.«01_k».proof.Proof.KernelRun
public import proofs.«01_k».proof.Proof.KernelIdealRun
public import proofs.«01_k».proof.Proof.RefRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame: it ends, its arguments as they were and every semaphore at zero. -/
theorem kernel_frame : Cert.quiescent_Kernel (hKernel := Cert.Kernel.Gen.facts) := fun m g _ =>
  θ_run_mono (Cert.Kernel.Tile.run_main m g) fun _ hr => ⟨fun c => ⟨(hr.1 c).2.1, (hr.1 c).2.2.1, (hr.1 c).2.2.2⟩, hr.2⟩

/-- The ideal kernel's frame, from any memory. -/
theorem kernelIdeal_frame : Cert.quiescent_KernelIdeal (hKernelIdeal := Cert.KernelIdeal.Gen.facts) := fun m g _ =>
  θ_run_mono (Cert.KernelIdeal.Tile.run_main m g) fun _ hr => ⟨fun c => ⟨(hr.1 c).2.1, (hr.1 c).2.2.1, (hr.1 c).2.2.2⟩, hr.2⟩

/-- The reference's frame, from any memory. -/
theorem reference_frame : Cert.quiescent_ReferenceIdeal (hReferenceIdeal := Cert.ReferenceIdeal.Gen.facts) := fun m g _ =>
  θ_run_mono (Cert.Proof.Reference.run_main m g) fun r hr =>
    ⟨fun c => ⟨(hr c Cert.ReferenceIdeal.main_arg0).trans (Reference.arg0_eq _), (hr c Cert.ReferenceIdeal.main_arg1).trans (Reference.arg1_eq _),
      (hr c Cert.ReferenceIdeal.main_arg2).trans (Reference.arg2_eq _)⟩, sem_eq_zero_of_no_sems (by decide) r.2⟩

/-- Kernel and reference leave the same result over the extended reals. -/
theorem same_result : Cert.algebraic_KernelIdeal_ReferenceIdeal_pre_uniform_grid (hKernelIdeal := Cert.KernelIdeal.Gen.facts)
    (hReferenceIdeal := Cert.ReferenceIdeal.Gen.facts) (hPre_uniform_grid := Cert.Pre_uniform_grid.Gen.facts) := by
  intro m g m' g' hpre hargs
  refine ⟨fun c => Cert.KernelIdeal.Tile.column m c, θ_run_mono (Cert.KernelIdeal.Tile.run_main m g) fun r hr c => hr.1 c,
    θ_run_mono (Cert.Proof.Reference.run_main m' g') fun r hr c => ⟨?_, (hr c Cert.ReferenceIdeal.main_arg0).trans (Reference.arg0_eq _),
      (hr c Cert.ReferenceIdeal.main_arg1).trans (Reference.arg1_eq _), (hr c Cert.ReferenceIdeal.main_arg2).trans (Reference.arg2_eq _)⟩⟩
  obtain ⟨e0, e1, e2⟩ := hargs c
  obtain ⟨h1, h2⟩ := hpre c
  have ha : Reference.answer (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = Cert.KernelIdeal.Tile.column m c := by
    rw [e0, e1, e2]
    exact (Value.column_eq _ _ _ _ h1 h2).symm
  exact ((hr c Cert.ReferenceIdeal.main_v24).trans (Reference.out_eq _)).trans ha

/-- Every claim. -/
theorem claim : Cert.Claim :=
  ⟨Cert.Kernel.Gen.facts, Cert.KernelIdeal.Gen.facts, Cert.ReferenceIdeal.Gen.facts, Cert.Pre_uniform_grid.Gen.facts,
    kernel_frame, kernelIdeal_frame, fun m g _ => kernelIdeal_frame m g trivial, reference_frame, fun m g _ => reference_frame m g trivial,
    trivial, same_result⟩

end Cert.Proof

end
